-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sources_in_range [hPre_sources_in_range : Cert.Pre_sources_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sources_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sources_in_range [hPre_sources_in_range : Cert.Pre_sources_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sources_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_sources_in_range [hKernelIdeal : Cert.KernelIdeal.Facts] [hPre_sources_in_range : Cert.Pre_sources_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sources_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_sources_in_range [hReferenceIdeal : Cert.ReferenceIdeal.Facts] [hPre_sources_in_range : Cert.Pre_sources_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sources_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_sources_in_range [hKernelIdeal : Cert.KernelIdeal.Facts] [hReferenceIdeal : Cert.ReferenceIdeal.Facts] [hPre_sources_in_range : Cert.Pre_sources_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sources_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_sources_in_range : Cert.Pre_sources_in_range.Facts),
    quiescent_Kernel (hKernel := hKernel)
    ∧ quiescent_KernelIdeal (hKernelIdeal := hKernelIdeal)
    ∧ quiescent_KernelIdeal_pre_sources_in_range (hKernelIdeal := hKernelIdeal) (hPre_sources_in_range := hPre_sources_in_range)
    ∧ quiescent_ReferenceIdeal (hReferenceIdeal := hReferenceIdeal)
    ∧ quiescent_ReferenceIdeal_pre_sources_in_range (hReferenceIdeal := hReferenceIdeal) (hPre_sources_in_range := hPre_sources_in_range)
    ∧ preserves_Kernel_KernelIdeal
    ∧ algebraic_KernelIdeal_ReferenceIdeal_pre_sources_in_range (hKernelIdeal := hKernelIdeal) (hReferenceIdeal := hReferenceIdeal) (hPre_sources_in_range := hPre_sources_in_range)
-- ==== Pre_sources_in_range.lean ====
abbrev S50000x7 : Shape := ⟨2, ![50000, 7]⟩
abbrev S2x800000 : Shape := ⟨2, ![2, 800000]⟩
abbrev S50000 : Shape := ⟨1, ![50000]⟩
abbrev S7x512 : Shape := ⟨2, ![7, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x12 : Shape := ⟨2, ![256, 12]⟩
abbrev S12 : Shape := ⟨1, ![12]⟩
abbrev S1x800000 : Shape := ⟨2, ![1, 800000]⟩
abbrev S800000 : Shape := ⟨1, ![800000]⟩
abbrev S_ : Shape := ⟨0, ![]⟩

class Facts : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  h_S_ : 0 < S_.numel

variable [Facts]

def fn {F : FTy → Type} [FloatOps F] (main_arg0 : FVec F S50000x7 .f32) (main_arg1 : IVec S2x800000 32) (main_arg2 : IVec S50000 32) (main_arg3 : FVec F S7x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x256 .f32) (main_arg16 : FVec F S256 .f32) (main_arg17 : FVec F S256x12 .f32) (main_arg18 : FVec F S12 .f32) : IVec S_ 1 :=
  let main_v0 : IVec S1x800000 32 := (extractStridedSlice S1x800000 ![0, 0] · slices_S2x800000_S1x800000_0_0) main_arg1
  let main_v1 : IVec S800000 32 := shapeCast S800000 main_v0 shapeCasts_S1x800000_S800000
  let main_c : IVec S_ 32 := constantI S_ 32 0#32
  let main_v2 : IVec S800000 32 := broadcastInDim S800000 ![] bcast_S_S800000 main_c
  let main_v3 : IVec S800000 1 := cmpi .sge main_v1 main_v2
  let main_c_0 : IVec S_ 32 := constantI S_ 32 50000#32
  let main_v4 : IVec S800000 32 := broadcastInDim S800000 ![] bcast_S_S800000 main_c_0
  let main_v5 : IVec S800000 1 := cmpi .slt main_v1 main_v4
  let main_v6 : IVec S800000 1 := andi main_v3 main_v5
  let main_c_1 : IVec S_ 1 := constantI S_ 1 1#1
  let main_v7 : IVec S_ 1 := (fun x v => Host.reduce IntOp.andi x v reducesTo_S800000_S_d0 h_S_) main_v6 main_c_1
  main_v7
-- ==== Kernel.lean ====
abbrev S50000x7 : Shape := ⟨2, ![50000, 7]⟩
abbrev S2x800000 : Shape := ⟨2, ![2, 800000]⟩
abbrev S50000 : Shape := ⟨1, ![50000]⟩
abbrev S7x512 : Shape := ⟨2, ![7, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x12 : Shape := ⟨2, ![256, 12]⟩
abbrev S12 : Shape := ⟨1, ![12]⟩
abbrev S1x800000 : Shape := ⟨2, ![1, 800000]⟩
abbrev S800000 : Shape := ⟨1, ![800000]⟩
abbrev S_ : Shape := ⟨0, ![]⟩
abbrev S50176x16 : Shape := ⟨2, ![50176, 16]⟩
abbrev S1 : Shape := ⟨1, ![1]⟩
abbrev S2 : Shape := ⟨1, ![2]⟩
abbrev S16x512 : Shape := ⟨2, ![16, 512]⟩
abbrev S1x512 : Shape := ⟨2, ![1, 512]⟩
abbrev S1x256 : Shape := ⟨2, ![1, 256]⟩
abbrev S256x128 : Shape := ⟨2, ![256, 128]⟩
abbrev S1x128 : Shape := ⟨2, ![1, 128]⟩
abbrev S50176 : Shape := ⟨1, ![50176]⟩
abbrev S98x1x512 : Shape := ⟨3, ![98, 1, 512]⟩
abbrev S800000x1 : Shape := ⟨2, ![800000, 1]⟩
abbrev S800000x16 : Shape := ⟨2, ![800000, 16]⟩
abbrev S50176x512 : Shape := ⟨2, ![50176, 512]⟩
abbrev S512x16 : Shape := ⟨2, ![512, 16]⟩
abbrev S800000x512 : Shape := ⟨2, ![800000, 512]⟩
abbrev S128x128 : Shape := ⟨2, ![128, 128]⟩
abbrev S1x1x512 : Shape := ⟨3, ![1, 1, 512]⟩
abbrev S128x512 : Shape := ⟨2, ![128, 512]⟩
abbrev S128x1 : Shape := ⟨2, ![128, 1]⟩
abbrev S128 : Shape := ⟨1, ![128]⟩
abbrev S128x256 : Shape := ⟨2, ![128, 256]⟩
abbrev S128x12 : Shape := ⟨2, ![128, 12]⟩

abbrev nBuf : Space → Nat
  | .hbm => 108
  | .vmem => 31
  | .smem => 0
  | _ => 0

abbrev bufTy : (tb : Table) → Fin (tcTables nBuf tb) → BufTy
  | .hbm, ⟨0, _⟩ => ⟨S50000x7, .f32⟩
  | .hbm, ⟨1, _⟩ => ⟨S2x800000, .i32⟩
  | .hbm, ⟨2, _⟩ => ⟨S50000, .i32⟩
  | .hbm, ⟨3, _⟩ => ⟨S7x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x256, .f32⟩
  | .hbm, ⟨16, _⟩ => ⟨S256, .f32⟩
  | .hbm, ⟨17, _⟩ => ⟨S256x12, .f32⟩
  | .hbm, ⟨18, _⟩ => ⟨S12, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .f32⟩
  | .hbm, ⟨24, _⟩ => ⟨S50176x16, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S50176x16, .f32⟩
  | .hbm, ⟨31, _⟩ => ⟨S_, .f32⟩
  | .hbm, ⟨32, _⟩ => ⟨S16x512, .f32⟩
  | .hbm, ⟨33, _⟩ => ⟨S_, .i32⟩
  | .hbm, ⟨34, _⟩ => ⟨S1, .i32⟩
  | .hbm, ⟨35, _⟩ => ⟨S16x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S1x256, .f32⟩
  | .hbm, ⟨43, _⟩ => ⟨S_, .f32⟩
  | .hbm, ⟨44, _⟩ => ⟨S256x128, .f32⟩
  | .hbm, ⟨45, _⟩ => ⟨S_, .i32⟩
  | .hbm, ⟨46, _⟩ => ⟨S1, .i32⟩
  | .hbm, ⟨47, _⟩ => ⟨S256x128, .f32⟩
  | .hbm, ⟨48, _⟩ => ⟨S_, .f32⟩
  | .hbm, ⟨49, _⟩ => ⟨S1x128, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S1x128, .f32⟩
  | .hbm, ⟨56, _⟩ => ⟨S_, .i32⟩
  | .hbm, ⟨57, _⟩ => ⟨S50176, .i32⟩
  | .hbm, ⟨58, _⟩ => ⟨S_, .i32⟩
  | .hbm, ⟨59, _⟩ => ⟨S1, .i32⟩
  | .hbm, ⟨60, _⟩ => ⟨S50176, .i32⟩
  | .hbm, ⟨61, _⟩ => ⟨S98x1x512, .i32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x16, .f32⟩
  | .hbm, ⟨71, _⟩ => ⟨S_, .f32⟩
  | .hbm, ⟨72, _⟩ => ⟨S50176x16, .f32⟩
  | .hbm, ⟨73, _⟩ => ⟨S800000x1, .i32⟩
  | .hbm, ⟨74, _⟩ => ⟨S50176x16, .f32⟩
  | .hbm, ⟨75, _⟩ => ⟨S50176x16, .f32⟩
  | .hbm, ⟨76, _⟩ => ⟨S50176x512, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x512, .f32⟩
  | .hbm, ⟨86, _⟩ => ⟨S_, .f32⟩
  | .hbm, ⟨87, _⟩ => ⟨S50176x512, .f32⟩
  | .hbm, ⟨88, _⟩ => ⟨S800000x1, .i32⟩
  | .hbm, ⟨89, _⟩ => ⟨S50176x512, .f32⟩
  | .hbm, ⟨90, _⟩ => ⟨S50176x512, .f32⟩
  | .hbm, ⟨91, _⟩ => ⟨S50176x512, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x512, .f32⟩
  | .hbm, ⟨101, _⟩ => ⟨S_, .f32⟩
  | .hbm, ⟨102, _⟩ => ⟨S50176x512, .f32⟩
  | .hbm, ⟨103, _⟩ => ⟨S800000x1, .i32⟩
  | .hbm, ⟨104, _⟩ => ⟨S50176x512, .f32⟩
  | .hbm, ⟨105, _⟩ => ⟨S50176x512, .f32⟩
  | .hbm, ⟨106, _⟩ => ⟨S128x128, .f32⟩
  | .hbm, ⟨107, _⟩ => ⟨S128x12, .f32⟩
  | .local _ .vmem, ⟨0, _⟩ => ⟨S512x16, .f32⟩
  | .local _ .vmem, ⟨1, _⟩ => ⟨S512x16, .f32⟩
  | .local _ .vmem, ⟨2, _⟩ => ⟨S16x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x1x512, .i32⟩
  | .local _ .vmem, ⟨19, _⟩ => ⟨S1x1x512, .i32⟩
  | .local _ .vmem, ⟨20, _⟩ => ⟨S512x512, .f32⟩
  | .local _ .vmem, ⟨21, _⟩ => ⟨S1x512, .f32⟩
  | .local _ .vmem, ⟨22, _⟩ => ⟨S512x512, .f32⟩
  | .local _ .vmem, ⟨23, _⟩ => ⟨S1x512, .f32⟩
  | .local _ .vmem, ⟨24, _⟩ => ⟨S512x256, .f32⟩
  | .local _ .vmem, ⟨25, _⟩ => ⟨S1x256, .f32⟩
  | .local _ .vmem, ⟨26, _⟩ => ⟨S256x128, .f32⟩
  | .local _ .vmem, ⟨27, _⟩ => ⟨S1x128, .f32⟩
  | .local _ .vmem, ⟨28, _⟩ => ⟨S128x128, .f32⟩
  | .local _ .vmem, ⟨29, _⟩ => ⟨S128x512, .f32⟩
  | .local _ .vmem, ⟨30, _⟩ => ⟨S128x1, .f32⟩
  | _, _ => ⟨S50000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_c_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_cst_5 : Ref sig .tc := ⟨.hbm, 48, rfl⟩
abbrev main_v22 : Ref sig .tc := ⟨.hbm, 49, rfl⟩
abbrev main_c_6 : Ref sig .tc := ⟨.hbm, 50, rfl⟩
abbrev main_v23 : Ref sig .tc := ⟨.hbm, 51, rfl⟩
abbrev main_c_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_8 : Ref sig .tc := ⟨.hbm, 56, rfl⟩
abbrev main_v27 : Ref sig .tc := ⟨.hbm, 57, rfl⟩
abbrev main_c_9 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_10 : Ref sig .tc := ⟨.hbm, 62, rfl⟩
abbrev main_v31 : Ref sig .tc := ⟨.hbm, 63, rfl⟩
abbrev main_v32 : Ref sig .tc := ⟨.hbm, 64, rfl⟩
abbrev main_c_11 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_12 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_13 : Ref sig .tc := ⟨.hbm, 77, rfl⟩
abbrev main_v43 : Ref sig .tc := ⟨.hbm, 78, rfl⟩
abbrev main_v44 : Ref sig .tc := ⟨.hbm, 79, rfl⟩
abbrev main_c_14 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_15 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_16 : Ref sig .tc := ⟨.hbm, 92, rfl⟩
abbrev main_v55 : Ref sig .tc := ⟨.hbm, 93, rfl⟩
abbrev main_v56 : Ref sig .tc := ⟨.hbm, 94, rfl⟩
abbrev main_c_17 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_18 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_scratch0 : Ref sig .tc := ⟨.vmem, 29, rfl⟩
abbrev cc2_scratch1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![98], ![false]⟩

def k2_cond2 (i : grid2.Coords) : BitVec 1 :=
  let arg0 : BitVec 32 := BitVec.ofNat 32 (i 0).val
  let c97_i32 : BitVec 32 := 97#32
  let v42 : BitVec 1 := Scalar.cmpi .eq arg0 c97_i32
  let v43 : BitVec 32 := Scalar.extui v42
  let c0_i32_26 : BitVec 32 := 0#32
  let v44 : BitVec 1 := Scalar.cmpi .ne v43 c0_i32_26
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x512 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]
-- ==== ReferenceIdeal.lean ====
abbrev S50000x7 : Shape := ⟨2, ![50000, 7]⟩
abbrev S2x800000 : Shape := ⟨2, ![2, 800000]⟩
abbrev S50000 : Shape := ⟨1, ![50000]⟩
abbrev S7x512 : Shape := ⟨2, ![7, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x12 : Shape := ⟨2, ![256, 12]⟩
abbrev S12 : Shape := ⟨1, ![12]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x7 : Shape := ⟨2, ![800000, 7]⟩
abbrev S50000x512 : Shape := ⟨2, ![50000, 512]⟩
abbrev S1x512 : Shape := ⟨2, ![1, 512]⟩
abbrev S800000x512 : Shape := ⟨2, ![800000, 512]⟩
abbrev S128x512 : Shape := ⟨2, ![128, 512]⟩
abbrev S50000x1 : Shape := ⟨2, ![50000, 1]⟩
abbrev S128x1 : Shape := ⟨2, ![128, 1]⟩
abbrev S128x256 : Shape := ⟨2, ![128, 256]⟩
abbrev S1x256 : Shape := ⟨2, ![1, 256]⟩
abbrev S128x12 : Shape := ⟨2, ![128, 12]⟩
abbrev S1x12 : Shape := ⟨2, ![1, 12]⟩

abbrev nBuf : Space → Nat
  | .hbm => 141
  | .vmem => 0
  | .smem => 0
  | _ => 0

abbrev hbmTy0_0 (i : Nat) : BufTy := match i % 128 with
  | 0 => ⟨S50000x7, .f32⟩
  | 1 => ⟨S2x800000, .i32⟩
  | 2 => ⟨S50000, .i32⟩
  | 3 => ⟨S7x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x512, .f32⟩
  | 12 => ⟨S512, .f32⟩
  | 13 => ⟨S512x512, .f32⟩
  | 14 => ⟨S512, .f32⟩
  | 15 => ⟨S512x256, .f32⟩
  | 16 => ⟨S256, .f32⟩
  | 17 => ⟨S256x12, .f32⟩
  | 18 => ⟨S12, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x7, .f32⟩
  | 32 => ⟨S_, .f32⟩
  | 33 => ⟨S50000x7, .f32⟩
  | 34 => ⟨S800000x1, .i32⟩
  | 35 => ⟨S50000x7, .f32⟩
  | 36 => ⟨S50000x7, .f32⟩
  | 37 => ⟨S50000x512, .f32⟩
  | 38 => ⟨S1x512, .f32⟩
  | 39 => ⟨S50000x512, .f32⟩
  | 40 => ⟨S50000x512, .f32⟩
  | 41 => ⟨S_, .f32⟩
  | 42 => ⟨S50000x512, .f32⟩
  | 43 => ⟨S50000x512, .f32⟩
  | 44 => ⟨S50000x512, .f32⟩
  | 45 => ⟨S1x512, .f32⟩
  | 46 => ⟨S50000x512, .f32⟩
  | 47 => ⟨S50000x512, .f32⟩
  | 48 => ⟨S_, .f32⟩
  | 49 => ⟨S50000x512, .f32⟩
  | 50 => ⟨S50000x512, .f32⟩
  | 51 => ⟨S1x800000, .i32⟩
  | 52 => ⟨S800000, .i32⟩
  | 53 => ⟨S1x800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x512, .f32⟩
  | 64 => ⟨S_, .f32⟩
  | 65 => ⟨S50000x512, .f32⟩
  | 66 => ⟨S800000x1, .i32⟩
  | 67 => ⟨S50000x512, .f32⟩
  | 68 => ⟨S50000x512, .f32⟩
  | 69 => ⟨S50000x512, .f32⟩
  | 70 => ⟨S1x512, .f32⟩
  | 71 => ⟨S50000x512, .f32⟩
  | 72 => ⟨S50000x512, .f32⟩
  | 73 => ⟨S_, .f32⟩
  | 74 => ⟨S50000x512, .f32⟩
  | 75 => ⟨S50000x512, .f32⟩
  | 76 => ⟨S50000x512, .f32⟩
  | 77 => ⟨S1x512, .f32⟩
  | 78 => ⟨S50000x512, .f32⟩
  | 79 => ⟨S50000x512, .f32⟩
  | 80 => ⟨S_, .f32⟩
  | 81 => ⟨S50000x512, .f32⟩
  | 82 => ⟨S50000x512, .f32⟩
  | 83 => ⟨S1x800000, .i32⟩
  | 84 => ⟨S800000, .i32⟩
  | 85 => ⟨S1x800000, .i32⟩
  | 86 => ⟨S800000, .i32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x512, .f32⟩
  | 96 => ⟨S_, .f32⟩
  | 97 => ⟨S50000x512, .f32⟩
  | 98 => ⟨S800000x1, .i32⟩
  | 99 => ⟨S50000x512, .f32⟩
  | 100 => ⟨S50000x512, .f32⟩
  | 101 => ⟨S50000x512, .f32⟩
  | 102 => ⟨S1x512, .f32⟩
  | 103 => ⟨S50000x512, .f32⟩
  | 104 => ⟨S50000x512, .f32⟩
  | 105 => ⟨S_, .f32⟩
  | 106 => ⟨S50000x512, .f32⟩
  | 107 => ⟨S50000x512, .f32⟩
  | 108 => ⟨S50000x512, .f32⟩
  | 109 => ⟨S1x512, .f32⟩
  | 110 => ⟨S50000x512, .f32⟩
  | 111 => ⟨S50000x512, .f32⟩
  | 112 => ⟨S_, .f32⟩
  | 113 => ⟨S50000x512, .f32⟩
  | 114 => ⟨S50000x512, .f32⟩
  | 115 => ⟨S_, .f32⟩
  | 116 => ⟨S128x512, .f32⟩
  | 117 => ⟨S50000x1, .i32⟩
  | 118 => ⟨S128x512, .f32⟩
  | 119 => ⟨S_, .f32⟩
  | 120 => ⟨S50000x1, .f32⟩
  | 121 => ⟨S_, .f32⟩
  | 122 => ⟨S128x1, .f32⟩
  | 123 => ⟨S50000x1, .i32⟩
  | 124 => ⟨S128x1, .f32⟩
  | 125 => ⟨S_, .f32⟩
  | 126 => ⟨S128x1, .f32⟩
  | 127 => ⟨S128x1, .f32⟩
  | _ => ⟨S50000x7, .f32⟩

abbrev hbmTy0_1 (i : Nat) : BufTy := match i % 128 with
  | 0 => ⟨S128x512, .f32⟩
  | 1 => ⟨S128x512, .f32⟩
  | 2 => ⟨S128x256, .f32⟩
  | 3 => ⟨S1x256, .f32⟩
  | 4 => ⟨S128x256, .f32⟩
  | 5 => ⟨S128x256, .f32⟩
  | 6 => ⟨S_, .f32⟩
  | 7 => ⟨S128x256, .f32⟩
  | 8 => ⟨S128x256, .f32⟩
  | 9 => ⟨S128x12, .f32⟩
  | 10 => ⟨S1x12, .f32⟩
  | 11 => ⟨S128x12, .f32⟩
  | 12 => ⟨S128x12, .f32⟩
  | _ => ⟨S50000x7, .f32⟩

abbrev hbmTy (i : Nat) : BufTy := match i / 128 with
  | 0 => hbmTy0_0 i
  | 1 => hbmTy0_1 i
  | _ => ⟨S50000x7, .f32⟩

abbrev bufTy : (tb : Table) → Fin (tcTables nBuf tb) → BufTy
  | .hbm, ⟨i, _⟩ => hbmTy i
  | _, _ => ⟨S50000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_3 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_8 : Ref sig .tc := ⟨.hbm, 87, rfl⟩
abbrev main_v58 : Ref sig .tc := ⟨.hbm, 88, rfl⟩
abbrev main_v59 : Ref sig .tc := ⟨.hbm, 89, rfl⟩
abbrev main_c_9 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_11 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_cst_13 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_14 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_17 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩

abbrev nD : Nat := 1
abbrev τ : Topo := Topo.v7x

variable {F : FTy → Type} [FloatOps F]
-- ==== Proof.IdealBodies.lean ====
/-  The three kernel bodies of `KernelIdeal`, each run on whole staging memrefs: a body hands its inputs back
    as they were and leaves in each buffer it stores into the body's own payload of what it loaded.  -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first layer's body leaves in its output block the two-step perceptron of its input block. -/
theorem mlp0_run (c : Dev nD) (i : grid0.Coords) (arg1 : Memref sig .tc .vmem S512x16 .f32) (harg1 : arg1.IsWhole) (arg2 : Memref sig .tc .vmem S16x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole)
    (x0 : Vec F S512x16 .f32) (x1 : Vec F S16x512 .f32) (x2 : Vec F S1x512 .f32) (x3 : Vec F S512x512 .f32) (x4 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay1 x0 x1 x2 x3 x4)) -∗ K ⟨⟩))
      ⊢ wp frame (wpE (defs₀ (F := F)) Variants.none c none) E (cc0__mlp_layer_body i arg1 harg1 arg2 harg2 arg3 harg3 arg4 harg4 arg5 harg5 arg6 harg6) K := by
  simp only [cc0__mlp_layer_body_eq_skeleton]; unfold cc0__mlp_layer_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; iexact H5
  ipureintro; sl_unfold_words; refine (View.read_writes_full (s := S512x512) _ _ _ _ _).trans ?_
  simp (disch := decide) only [View.readAt_eq_ld, View.ld_unit_lit', View.readCov_cons_unit_lit', Memref.IsWhole.read_unread]

set_option maxHeartbeats 2000000 in
/-- The second layer's body leaves in its output block the two-step perceptron of its input block. -/
theorem mlp1_run (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole)
    (x0 : Vec F S512x512 .f32) (x1 : Vec F S512x512 .f32) (x2 : Vec F S1x512 .f32) (x3 : Vec F S512x512 .f32) (x4 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x1 x2 x3 x4)) -∗ K ⟨⟩))
      ⊢ wp frame (wpE (defs₀ (F := F)) Variants.none c none) E (cc1__mlp_layer_body i arg1 harg1 arg2 harg2 arg3 harg3 arg4 harg4 arg5 harg5 arg6 harg6) K := by
  simp only [cc1__mlp_layer_body_eq_skeleton]; unfold cc1__mlp_layer_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; iexact H5
  ipureintro; sl_unfold_words; refine (View.read_writes_full (s := S512x512) _ _ _ _ _).trans ?_
  simp (disch := decide) only [View.readAt_eq_ld, View.ld_unit_lit', View.readCov_cons_unit_lit', Memref.IsWhole.read_unread]

/-- The pooled sums after one block of rows: the sums before it plus the block's own, row by graph. -/
def sumStep (x0 : Vec F S512x512 .f32) (x1 : Vec F S1x1x512 .i32) (x2 : Vec F S512x512 .f32) (x3 : Vec F S1x512 .f32) (x4 : Vec F S512x512 .f32) (x5 : Vec F S1x512 .f32)
    (s : Vec F S128x512 .f32) : Vec F S128x512 .f32 := k2_pay1 (k2_pay7 x0 x2 x3 x4 x5 x1 s)

/-- The pooled counts after one block of rows: the counts before it plus the block's own. -/
def cntStep (x1 : Vec F S1x1x512 .i32) (n : Vec F S128x1 .f32) : Vec F S128x1 .f32 := k2_pay2 (k2_pay6 x1) n

/-- The condition of the pool body's first branch, at the grid's first point only. -/
abbrev first2 (i : grid2.Coords) : Prop := Scalar.cmpi .ne (Scalar.extui (Scalar.cmpi .eq (BitVec.ofNat 32 (i 0).val) 0#32)) 0#32 = 1#1

/-- The condition of the pool body's last branch, at the grid's last point only. -/
abbrev last2 (i : grid2.Coords) : Prop := k2_cond2 i = 1#1

set_option maxHeartbeats 2000000 in
/-- At the first point the pool body starts both accumulators at zero and adds the block; its output block is not stored. -/
theorem pool_first (c : Dev nD) (i : grid2.Coords) (arg1 : Memref sig .tc .vmem S512x512 .f32) (harg1 : arg1.IsWhole) (arg2 : Memref sig .tc .vmem S1x1x512 .i32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x1 .f32) (harg13 : arg13.IsWhole) (hc0 : first2 i) (hc1 : ¬last2 i)
    (x0 : Vec F S512x512 .f32) (x1 : Vec F S1x1x512 .i32) (x2 : Vec F S512x512 .f32) (x3 : Vec F S1x512 .f32) (x4 : Vec F S512x512 .f32) (x5 : Vec F S1x512 .f32) (x6 : Vec F S512x256 .f32) (x7 : Vec F S1x256 .f32) (x8 : Vec F S256x128 .f32) (x9 : Vec F S1x128 .f32) (o : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare o ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare o ∗ owns (c : Thread nD τ) arg12 fullShare (sumStep x0 x1 x2 x3 x4 x5 k2_pay4) ∗ owns (c : Thread nD τ) arg13 fullShare (cntStep x1 k2_pay5)) -∗ K ⟨⟩))
      ⊢ wp frame (wpE (defs₀ (F := F)) Variants.none c none) E (cc2__l3_pool_body i arg1 harg1 arg2 harg2 arg3 harg3 arg4 harg4 arg5 harg5 arg6 harg6 arg7 harg7 arg8 harg8 arg9 harg9 arg10 harg10 arg11 harg11 arg12 harg12 arg13 harg13) K := by
  simp only [cc2__l3_pool_body_eq_skeleton]; unfold cc2__l3_pool_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists f10; isplitr; · ipureintro; exact hf10
    iexact H10
  isplitl [H11]
  · iexists _; isplitr; swap; iexact H11
    ipureintro; sl_unfold_words; refine (View.read_writes_full (s := S128x512) _ _ _ _ _).trans ?_
    simp (disch := decide) only [View.readAt_eq_ld, View.ld_unit_lit', View.readCov_cons_unit_lit', Memref.IsWhole.read_unread]
    rfl
  iexists _; isplitr; swap; iexact H12
  ipureintro; sl_unfold_words; refine (View.read_writes_full (s := S128x1) _ _ _ _ _).trans ?_
  simp (disch := decide) only [View.readAt_eq_ld, View.ld_unit_lit', View.readCov_cons_unit_lit', Memref.IsWhole.read_unread]
  rfl

set_option maxHeartbeats 2000000 in
/-- Between the first and the last point the pool body adds the block to both accumulators; its output block is not stored. -/
theorem pool_mid (c : Dev nD) (i : grid2.Coords) (arg1 : Memref sig .tc .vmem S512x512 .f32) (harg1 : arg1.IsWhole) (arg2 : Memref sig .tc .vmem S1x1x512 .i32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x1 .f32) (harg13 : arg13.IsWhole) (hc0 : ¬first2 i) (hc1 : ¬last2 i)
    (x0 : Vec F S512x512 .f32) (x1 : Vec F S1x1x512 .i32) (x2 : Vec F S512x512 .f32) (x3 : Vec F S1x512 .f32) (x4 : Vec F S512x512 .f32) (x5 : Vec F S1x512 .f32) (x6 : Vec F S512x256 .f32) (x7 : Vec F S1x256 .f32) (x8 : Vec F S256x128 .f32) (x9 : Vec F S1x128 .f32) (s : Vec F S128x512 .f32) (n : Vec F S128x1 .f32) (o : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare o ∗ owns (c : Thread nD τ) arg12 fullShare s ∗ owns (c : Thread nD τ) arg13 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare o ∗ owns (c : Thread nD τ) arg12 fullShare (sumStep x0 x1 x2 x3 x4 x5 s) ∗ owns (c : Thread nD τ) arg13 fullShare (cntStep x1 n)) -∗ K ⟨⟩))
      ⊢ wp frame (wpE (defs₀ (F := F)) Variants.none c none) E (cc2__l3_pool_body i arg1 harg1 arg2 harg2 arg3 harg3 arg4 harg4 arg5 harg5 arg6 harg6 arg7 harg7 arg8 harg8 arg9 harg9 arg10 harg10 arg11 harg11 arg12 harg12 arg13 harg13) K := by
  simp only [cc2__l3_pool_body_eq_skeleton]; unfold cc2__l3_pool_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists f10; isplitr; · ipureintro; exact hf10
    iexact H10
  isplitl [H11]
  · iexists _; isplitr; swap; iexact H11
    ipureintro; sl_unfold_words; refine (View.read_writes_full (s := S128x512) _ _ _ _ _).trans ?_
    simp (disch := decide) only [View.readAt_eq_ld, View.ld_unit_lit', View.readCov_cons_unit_lit', Memref.IsWhole.read_unread]
    rfl
  iexists _; isplitr; swap; iexact H12
  ipureintro; sl_unfold_words; refine (View.read_writes_full (s := S128x1) _ _ _ _ _).trans ?_
  simp (disch := decide) only [View.readAt_eq_ld, View.ld_unit_lit', View.readCov_cons_unit_lit', Memref.IsWhole.read_unread]
  rfl

set_option maxHeartbeats 2000000 in
/-- At the last point the pool body adds the block to both accumulators and stores the head of the mean. -/
theorem pool_last (c : Dev nD) (i : grid2.Coords) (arg1 : Memref sig .tc .vmem S512x512 .f32) (harg1 : arg1.IsWhole) (arg2 : Memref sig .tc .vmem S1x1x512 .i32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x256 .f32) (harg7 : arg7.IsWhole) (arg8 : Memref sig .tc .vmem S1x256 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x1 .f32) (harg13 : arg13.IsWhole) (hc0 : ¬first2 i) (hc1 : last2 i)
    (x0 : Vec F S512x512 .f32) (x1 : Vec F S1x1x512 .i32) (x2 : Vec F S512x512 .f32) (x3 : Vec F S1x512 .f32) (x4 : Vec F S512x512 .f32) (x5 : Vec F S1x512 .f32) (x6 : Vec F S512x256 .f32) (x7 : Vec F S1x256 .f32) (x8 : Vec F S256x128 .f32) (x9 : Vec F S1x128 .f32) (s : Vec F S128x512 .f32) (n : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare s ∗ owns (c : Thread nD τ) arg13 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k2_pay3 (sumStep x0 x1 x2 x3 x4 x5 s) (cntStep x1 n) x6 x7 x8 x9) ∗ owns (c : Thread nD τ) arg12 fullShare (sumStep x0 x1 x2 x3 x4 x5 s) ∗ owns (c : Thread nD τ) arg13 fullShare (cntStep x1 n)) -∗ K ⟨⟩))
      ⊢ wp frame (wpE (defs₀ (F := F)) Variants.none c none) E (cc2__l3_pool_body i arg1 harg1 arg2 harg2 arg3 harg3 arg4 harg4 arg5 harg5 arg6 harg6 arg7 harg7 arg8 harg8 arg9 harg9 arg10 harg10 arg11 harg11 arg12 harg12 arg13 harg13) K := by
  simp only [cc2__l3_pool_body_eq_skeleton]; unfold cc2__l3_pool_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; iexact H10
    ipureintro; sl_unfold_words; refine (View.read_writes_full (s := S128x128) _ _ _ _ _).trans ?_
    simp (disch := decide) only [View.readAt_eq_ld, View.ld_unit_lit', View.readCov_cons_unit_lit', Memref.IsWhole.read_unread]
    rfl
  isplitl [H11]
  · iexists _; isplitr; swap; iexact H11
    ipureintro; sl_unfold_words; refine (View.read_writes_full (s := S128x512) _ _ _ _ _).trans ?_
    simp (disch := decide) only [View.readAt_eq_ld, View.ld_unit_lit', View.readCov_cons_unit_lit', Memref.IsWhole.read_unread]
    rfl
  iexists _; isplitr; swap; iexact H12
  ipureintro; sl_unfold_words; refine (View.read_writes_full (s := S128x1) _ _ _ _ _).trans ?_
  simp (disch := decide) only [View.readAt_eq_ld, View.ld_unit_lit', View.readCov_cons_unit_lit', Memref.IsWhole.read_unread]
  rfl

end Cert.KernelIdeal.Run
-- ==== Proof.IdealRegions.lean ====
/-  The three pipelined calls of `KernelIdeal` at any contents `W` of the buffers they enter: what each grid
    point finds and leaves in its staging buffers, and the body's obligation at every point.  -/
module

public import proofs.«01_k».proof.Proof.IdealBodies

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t` of call 0, read off its array at `W`. -/
def blk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- What call 0 writes into its output's block at point `t`. -/
def out0 (c : Dev nD) (t : Fin cfg0.N) : Vec F S512x512 .f32 :=
  k0_pay1 (blk0 W c 0 t) (blk0 W c 1 t) (blk0 W c 2 t) (blk0 W c 3 t) (blk0 W c 4 t)

/-- Call 0's proof data at `W`: its arrays at `W`, each input's buffer left at its block, the output's at `out0`. -/
def dat0 (c : Dev nD) : Dat τ (Elt F) Unit ℕ (UR sig nD τ) ℕ cfg0 c where
  A w := W c (Pipeline.arrRef spec0 w)
  after w t := match w with
    | ⟨0, _⟩ => blk0 W c 0 t
    | ⟨1, _⟩ => blk0 W c 1 t
    | ⟨2, _⟩ => blk0 W c 2 t
    | ⟨3, _⟩ => blk0 W c 3 t
    | ⟨4, _⟩ => blk0 W c 4 t
    | ⟨5, _⟩ => out0 W c t
  Φ t := Pipeline.ΦA spec0 c
  q _ := fullShare
  owed _ := 0

/-- The arrays of call 0's proof data are `W`'s. -/
theorem dat0_A (c : Dev nD) (w : Fin cfg0.W) : (dat0 W c).A w = W c (Pipeline.arrRef spec0 w) := by
  dsimp only [dat0]

/-- Input window 0 of call 0 is left at its block, and found at it. -/
theorem after0_0 (c : Dev nD) (t : Fin cfg0.N) : (dat0 W c).after 0 t = blk0 W c 0 t := by dsimp only [dat0]
theorem before0_0 (c : Dev nD) (t : Fin cfg0.N) (d) : (dat0 W c).before 0 t d = blk0 W c 0 t :=
  ((dat0 W c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
theorem leaves0_0 (c : Dev nD) (t : Fin cfg0.N) :
    (dat0 W c).leavesExact 0 t = owns (c : Thread nD τ) (st0_0 t) fullShare (blk0 W c 0 t) := by
  unfold Dat.leavesExact; rw [show cfg0.idle 0 (cfg0.grid.coords t) = false from rfl, after0_0]

/-- Input window 1 of call 0 is left at its block, and found at it. -/
theorem after0_1 (c : Dev nD) (t : Fin cfg0.N) : (dat0 W c).after 1 t = blk0 W c 1 t := by dsimp only [dat0]
theorem before0_1 (c : Dev nD) (t : Fin cfg0.N) (d) : (dat0 W c).before 1 t d = blk0 W c 1 t :=
  ((dat0 W c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
theorem leaves0_1 (c : Dev nD) (t : Fin cfg0.N) :
    (dat0 W c).leavesExact 1 t = owns (c : Thread nD τ) (st0_1 t) fullShare (blk0 W c 1 t) := by
  unfold Dat.leavesExact; rw [show cfg0.idle 1 (cfg0.grid.coords t) = false from rfl, after0_1]

/-- Input window 2 of call 0 is left at its block, and found at it. -/
theorem after0_2 (c : Dev nD) (t : Fin cfg0.N) : (dat0 W c).after 2 t = blk0 W c 2 t := by dsimp only [dat0]
theorem before0_2 (c : Dev nD) (t : Fin cfg0.N) (d) : (dat0 W c).before 2 t d = blk0 W c 2 t :=
  ((dat0 W c).before_in_eq_fetched 2 rfl (fun _ => rfl) (fun _ _ _ => rfl) (fun t => by rw [after0_2]; unfold Dat.blockOf blk0; rw [dat0_A]; try rfl) t d).trans
    (by unfold Dat.fetched Dat.blockOf blk0; rw [dat0_A]; try rfl)
theorem leaves0_2 (c : Dev nD) (t : Fin cfg0.N) :
    (dat0 W c).leavesExact 2 t = owns (c : Thread nD τ) (st0_2 t) fullShare (blk0 W c 2 t) := by
  unfold Dat.leavesExact; rw [show cfg0.idle 2 (cfg0.grid.coords t) = false from rfl, after0_2]

/-- Input window 3 of call 0 is left at its block, and found at it. -/
theorem after0_3 (c : Dev nD) (t : Fin cfg0.N) : (dat0 W c).after 3 t = blk0 W c 3 t := by dsimp only [dat0]
theorem before0_3 (c : Dev nD) (t : Fin cfg0.N) (d) : (dat0 W c).before 3 t d = blk0 W c 3 t :=
  ((dat0 W c).before_in_eq_fetched 3 rfl (fun _ => rfl) (fun _ _ _ => rfl) (fun t => by rw [after0_3]; unfold Dat.blockOf blk0; rw [dat0_A]; try rfl) t d).trans
    (by unfold Dat.fetched Dat.blockOf blk0; rw [dat0_A]; try rfl)
theorem leaves0_3 (c : Dev nD) (t : Fin cfg0.N) :
    (dat0 W c).leavesExact 3 t = owns (c : Thread nD τ) (st0_3 t) fullShare (blk0 W c 3 t) := by
  unfold Dat.leavesExact; rw [show cfg0.idle 3 (cfg0.grid.coords t) = false from rfl, after0_3]

/-- Input window 4 of call 0 is left at its block, and found at it. -/
theorem after0_4 (c : Dev nD) (t : Fin cfg0.N) : (dat0 W c).after 4 t = blk0 W c 4 t := by dsimp only [dat0]
theorem before0_4 (c : Dev nD) (t : Fin cfg0.N) (d) : (dat0 W c).before 4 t d = blk0 W c 4 t :=
  ((dat0 W c).before_in_eq_fetched 4 rfl (fun _ => rfl) (fun _ _ _ => rfl) (fun t => by rw [after0_4]; unfold Dat.blockOf blk0; rw [dat0_A]; try rfl) t d).trans
    (by unfold Dat.fetched Dat.blockOf blk0; rw [dat0_A]; try rfl)
theorem leaves0_4 (c : Dev nD) (t : Fin cfg0.N) :
    (dat0 W c).leavesExact 4 t = owns (c : Thread nD τ) (st0_4 t) fullShare (blk0 W c 4 t) := by
  unfold Dat.leavesExact; rw [show cfg0.idle 4 (cfg0.grid.coords t) = false from rfl, after0_4]

/-- Call 0's output window is left at `out0`. -/
theorem after0_5 (c : Dev nD) (t : Fin cfg0.N) : (dat0 W c).after 5 t = out0 W c t := by dsimp only [dat0]

/-- What call 0's body is entered with at point `t`, window by window. -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d)))

/-- What call 0's body leaves at point `t`, window by window. -/
def bodyPost0 (c : Dev nD) (t : Fin cfg0.N) : sProp 𝕄 :=
  iprop((dat0 W c).Φ t.succ ∗ (dat0 W c).owesAt () t.succ
    ∗ (dat0 W c).leavesExact 0 t
    ∗ (dat0 W c).leavesExact 1 t
    ∗ (dat0 W c).leavesExact 2 t
    ∗ (dat0 W c).leavesExact 3 t
    ∗ (dat0 W c).leavesExact 4 t
    ∗ (dat0 W c).leavesExact 5 t)

theorem leaves0_5 (c : Dev nD) (t : Fin cfg0.N) :
    (dat0 W c).leavesExact 5 t = owns (c : Thread nD τ) (st0_5 t) fullShare (out0 W c t) := by
  unfold Dat.leavesExact; rw [show cfg0.idle 5 (cfg0.grid.coords t) = false from rfl, after0_5]

set_option maxHeartbeats 2000000 in
/-- Call 0's body at any point, from its blocks to its blocks and the perceptron of its input block. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4]
  rw [leaves0_0, leaves0_1, leaves0_2, leaves0_3, leaves0_4, leaves0_5,
    show (dat0 W c).owesAt () t.succ = (dat0 W c).owesAt () t.castSucc from rfl,
    show (dat0 W c).Φ t.succ = (dat0 W c).Φ t.castSucc from rfl]
  iintro ⟨HΦ, Ho, ⟨%d0, H0⟩, ⟨%d1, H1⟩, ⟨%d2, H2⟩, ⟨%d3, H3⟩, ⟨%d4, H4⟩, ⟨%d5, H5⟩⟩
  iapply (mlp0_run c (grid0.coords t) _ _ _ _ _ _ _ _ _ _ _ _ (blk0 W c 0 t) (blk0 W c 1 t) (blk0 W c 2 t) (blk0 W c 3 t) (blk0 W c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row of call 0. -/
theorem row0 (t : Fin cfg0.N) : (defs₀ (F := F)) .tc cfg0.body (cfg0.bodyArgs t (cfg0.slots t)) = bodyAt0 t := by
  unfold defs₀; rw [Defs.onTc_tc]

/-- Call 0's body meets its obligation at every point. -/
theorem body_obligation0 (c : Dev nD) : BodyObligation (dat0 (F := F) W c) (defs₀ (F := F)) Variants.none () Set.univ := fun t => by
  rw [bigSep_W0, bigSep_W0, row0]
  exact triple_restated (sound_body0 W c t) rfl .rfl fun _ => .rfl

/-- Window `w`'s block at point `t` of call 1, read off its array at `W`. -/
def blk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- What call 1 writes into its output's block at point `t`. -/
def out1 (c : Dev nD) (t : Fin cfg1.N) : Vec F S512x512 .f32 :=
  k1_pay1 (blk1 W c 0 t) (blk1 W c 1 t) (blk1 W c 2 t) (blk1 W c 3 t) (blk1 W c 4 t)

/-- Call 1's proof data at `W`: its arrays at `W`, each input's buffer left at its block, the output's at `out1`. -/
def dat1 (c : Dev nD) : Dat τ (Elt F) Unit ℕ (UR sig nD τ) ℕ cfg1 c where
  A w := W c (Pipeline.arrRef spec1 w)
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => out1 W c t
  Φ t := Pipeline.ΦA spec1 c
  q _ := fullShare
  owed _ := 0

/-- The arrays of call 1's proof data are `W`'s. -/
theorem dat1_A (c : Dev nD) (w : Fin cfg1.W) : (dat1 W c).A w = W c (Pipeline.arrRef spec1 w) := by
  dsimp only [dat1]

/-- Input window 0 of call 1 is left at its block, and found at it. -/
theorem after1_0 (c : Dev nD) (t : Fin cfg1.N) : (dat1 W c).after 0 t = blk1 W c 0 t := by dsimp only [dat1]
theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem leaves1_0 (c : Dev nD) (t : Fin cfg1.N) :
    (dat1 W c).leavesExact 0 t = owns (c : Thread nD τ) (st1_0 t) fullShare (blk1 W c 0 t) := by
  unfold Dat.leavesExact; rw [show cfg1.idle 0 (cfg1.grid.coords t) = false from rfl, after1_0]

/-- Input window 1 of call 1 is left at its block, and found at it. -/
theorem after1_1 (c : Dev nD) (t : Fin cfg1.N) : (dat1 W c).after 1 t = blk1 W c 1 t := by dsimp only [dat1]
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem leaves1_1 (c : Dev nD) (t : Fin cfg1.N) :
    (dat1 W c).leavesExact 1 t = owns (c : Thread nD τ) (st1_1 t) fullShare (blk1 W c 1 t) := by
  unfold Dat.leavesExact; rw [show cfg1.idle 1 (cfg1.grid.coords t) = false from rfl, after1_1]

/-- Input window 2 of call 1 is left at its block, and found at it. -/
theorem after1_2 (c : Dev nD) (t : Fin cfg1.N) : (dat1 W c).after 2 t = blk1 W c 2 t := by dsimp only [dat1]
theorem before1_2 (c : Dev nD) (t : Fin cfg1.N) (d) : (dat1 W c).before 2 t d = blk1 W c 2 t :=
  ((dat1 W c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
theorem leaves1_2 (c : Dev nD) (t : Fin cfg1.N) :
    (dat1 W c).leavesExact 2 t = owns (c : Thread nD τ) (st1_2 t) fullShare (blk1 W c 2 t) := by
  unfold Dat.leavesExact; rw [show cfg1.idle 2 (cfg1.grid.coords t) = false from rfl, after1_2]

/-- Input window 3 of call 1 is left at its block, and found at it. -/
theorem after1_3 (c : Dev nD) (t : Fin cfg1.N) : (dat1 W c).after 3 t = blk1 W c 3 t := by dsimp only [dat1]
theorem before1_3 (c : Dev nD) (t : Fin cfg1.N) (d) : (dat1 W c).before 3 t d = blk1 W c 3 t :=
  ((dat1 W c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
theorem leaves1_3 (c : Dev nD) (t : Fin cfg1.N) :
    (dat1 W c).leavesExact 3 t = owns (c : Thread nD τ) (st1_3 t) fullShare (blk1 W c 3 t) := by
  unfold Dat.leavesExact; rw [show cfg1.idle 3 (cfg1.grid.coords t) = false from rfl, after1_3]

/-- Input window 4 of call 1 is left at its block, and found at it. -/
theorem after1_4 (c : Dev nD) (t : Fin cfg1.N) : (dat1 W c).after 4 t = blk1 W c 4 t := by dsimp only [dat1]
theorem before1_4 (c : Dev nD) (t : Fin cfg1.N) (d) : (dat1 W c).before 4 t d = blk1 W c 4 t :=
  ((dat1 W c).before_in_eq_fetched 4 rfl (fun _ => rfl) (fun _ _ _ => rfl) (fun t => by rw [after1_4]; unfold Dat.blockOf blk1; rw [dat1_A]; try rfl) t d).trans
    (by unfold Dat.fetched Dat.blockOf blk1; rw [dat1_A]; try rfl)
theorem leaves1_4 (c : Dev nD) (t : Fin cfg1.N) :
    (dat1 W c).leavesExact 4 t = owns (c : Thread nD τ) (st1_4 t) fullShare (blk1 W c 4 t) := by
  unfold Dat.leavesExact; rw [show cfg1.idle 4 (cfg1.grid.coords t) = false from rfl, after1_4]

/-- Call 1's output window is left at `out1`. -/
theorem after1_5 (c : Dev nD) (t : Fin cfg1.N) : (dat1 W c).after 5 t = out1 W c t := by dsimp only [dat1]

/-- What call 1's body is entered with at point `t`, window by window. -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d)))

/-- What call 1's body leaves at point `t`, window by window. -/
def bodyPost1 (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t
    ∗ (dat1 W c).leavesExact 4 t
    ∗ (dat1 W c).leavesExact 5 t)

theorem leaves1_5 (c : Dev nD) (t : Fin cfg1.N) :
    (dat1 W c).leavesExact 5 t = owns (c : Thread nD τ) (st1_5 t) fullShare (out1 W c t) := by
  unfold Dat.leavesExact; rw [show cfg1.idle 5 (cfg1.grid.coords t) = false from rfl, after1_5]

set_option maxHeartbeats 2000000 in
/-- Call 1's body at any point, from its blocks to its blocks and the perceptron of its input block. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4]
  rw [leaves1_0, leaves1_1, leaves1_2, leaves1_3, leaves1_4, leaves1_5,
    show (dat1 W c).owesAt () t.succ = (dat1 W c).owesAt () t.castSucc from rfl,
    show (dat1 W c).Φ t.succ = (dat1 W c).Φ t.castSucc from rfl]
  iintro ⟨HΦ, Ho, ⟨%d0, H0⟩, ⟨%d1, H1⟩, ⟨%d2, H2⟩, ⟨%d3, H3⟩, ⟨%d4, H4⟩, ⟨%d5, H5⟩⟩
  iapply (mlp1_run c (grid1.coords t) _ _ _ _ _ _ _ _ _ _ _ _ (blk1 W c 0 t) (blk1 W c 1 t) (blk1 W c 2 t) (blk1 W c 3 t) (blk1 W c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row of call 1. -/
theorem row1 (t : Fin cfg1.N) : (defs₀ (F := F)) .tc cfg1.body (cfg1.bodyArgs t (cfg1.slots t)) = bodyAt1 t := by
  unfold defs₀; rw [Defs.onTc_tc]

/-- Call 1's body meets its obligation at every point. -/
theorem body_obligation1 (c : Dev nD) : BodyObligation (dat1 (F := F) W c) (defs₀ (F := F)) Variants.none () Set.univ := fun t => by
  rw [bigSep_W1, bigSep_W1, row1]
  exact triple_restated (sound_body1 W c t) rfl .rfl fun _ => .rfl

/-- Separating conjunction associates. -/
theorem sep_shift (P Q R : sProp 𝕄) : iprop((P ∗ Q) ∗ R) = iprop(P ∗ Q ∗ R) := equiv_iff.mp ⟨BI.sep_assoc, BI.sep_assoc'⟩

/-- The condition of the pool body's first branch holds at the first point only. -/
theorem first2_iff (t : Fin cfg2.N) : first2 (grid2.coords t) ↔ t.val % 98 = 0 := by
  have ht : t.val < 98 := Nat.lt_of_lt_of_eq t.isLt N_2
  have e0 : (grid2.coords t 0).val = t.val / 1 % 98 := Pipeline.Grid.coords_val t 0 (by decide) rfl
  simp only [first2, e0]
  word_cmp

/-- The condition of the pool body's last branch holds at the last point only. -/
theorem last2_iff (t : Fin cfg2.N) : last2 (grid2.coords t) ↔ t.val % 98 = 97 := by
  have ht : t.val < 98 := Nat.lt_of_lt_of_eq t.isLt N_2
  have e0 : (grid2.coords t 0).val = t.val / 1 % 98 := Pipeline.Grid.coords_val t 0 (by decide) rfl
  simp only [last2, k2_cond2, e0]
  word_cmp

/-- The staging buffers of the two other calls, each at anything. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The pooled sums' and counts' scratch buffers. -/
abbrev scSum : Memref sig .tc .vmem S128x512 .f32 := Memref.whole cc2_scratch0
abbrev scCnt : Memref sig .tc .vmem S128x1 .f32 := Memref.whole cc2_scratch1

/-- The scoped buffers call 2 does not stage: the other calls' staging buffers and its two scratch buffers. -/
theorem scopedRest2_split (c : Dev nD) : (Pipeline.scopedRest (Ix := Unit) (Name := ℕ) (U := UR sig nD τ) (Lvl := ℕ) (Val := Elt F) spec2 c : sProp 𝕄)
    = iprop(rest2 c ∗ (∃ d, owns (c : Thread nD τ) scSum fullShare d) ∗ (∃ d, owns (c : Thread nD τ) scCnt fullShare d)) := by
  rw [scopedRest2_eq]; unfold rest2; simp only [scSum, scCnt, owns_whole, sep_shift]; try rfl

/-- Window `w`'s block at point `t` of call 2, read off its array at `W`. -/
def blk2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The pooled sums before point `n`: zero, then one block of rows added per point. -/
def sums2 (c : Dev nD) : ℕ → Vec F S128x512 .f32
  | 0 => k2_pay4
  | n + 1 => if h : n < cfg2.N then sumStep (blk2 W c 0 ⟨n, h⟩) (blk2 W c 1 ⟨n, h⟩) (blk2 W c 2 ⟨n, h⟩) (blk2 W c 3 ⟨n, h⟩) (blk2 W c 4 ⟨n, h⟩) (blk2 W c 5 ⟨n, h⟩) (sums2 c n) else sums2 c n

/-- The pooled counts before point `n`: zero, then one block of rows added per point. -/
def cnts2 (c : Dev nD) : ℕ → Vec F S128x1 .f32
  | 0 => k2_pay5
  | n + 1 => if h : n < cfg2.N then cntStep (blk2 W c 1 ⟨n, h⟩) (cnts2 c n) else cnts2 c n

/-- The pooled sums after point `t`. -/
theorem sums2_succ (c : Dev nD) (t : Fin cfg2.N) : sums2 W c (t.val + 1) = sumStep (blk2 W c 0 t) (blk2 W c 1 t) (blk2 W c 2 t) (blk2 W c 3 t) (blk2 W c 4 t) (blk2 W c 5 t) (sums2 W c t.val) := by
  show dite _ _ _ = _; rw [dif_pos t.isLt]

/-- The pooled counts after point `t`. -/
theorem cnts2_succ (c : Dev nD) (t : Fin cfg2.N) : cnts2 W c (t.val + 1) = cntStep (blk2 W c 1 t) (cnts2 W c t.val) := by
  show dite _ _ _ = _; rw [dif_pos t.isLt]

/-- What call 2 writes into its output's block, at the point that stores it. -/
def out2 (c : Dev nD) (t : Fin cfg2.N) : Vec F S128x128 .f32 :=
  k2_pay3 (sums2 W c (t.val + 1)) (cnts2 W c (t.val + 1)) (blk2 W c 6 t) (blk2 W c 7 t) (blk2 W c 8 t) (blk2 W c 9 t)

/-- Call 2's invariant before point `n`: the scratch buffers at anything before the first point, then at the pooled sums
    and counts. -/
def inv2 (c : Dev nD) : ℕ → sProp 𝕄
  | 0 => Pipeline.ΦA spec2 c
  | n + 1 => iprop((rest2 c ∗ owns (c : Thread nD τ) scSum fullShare (sums2 W c (n + 1)) ∗ owns (c : Thread nD τ) scCnt fullShare (cnts2 W c (n + 1)))
      ∗ (∃ r, prngReg c r))

theorem inv2_zero (c : Dev nD) {n : ℕ} (h : n = 0) : inv2 W c n
    = iprop((rest2 c ∗ (∃ d, owns (c : Thread nD τ) scSum fullShare d) ∗ (∃ d, owns (c : Thread nD τ) scCnt fullShare d)) ∗ (∃ r, prngReg c r)) := by
  subst h; unfold inv2 Pipeline.ΦA; rw [scopedRest2_split]

theorem inv2_pos (c : Dev nD) {n : ℕ} (h : n ≠ 0) : inv2 W c n
    = iprop((rest2 c ∗ owns (c : Thread nD τ) scSum fullShare (sums2 W c n) ∗ owns (c : Thread nD τ) scCnt fullShare (cnts2 W c n)) ∗ (∃ r, prngReg c r)) := by
  cases n with
  | zero => exact absurd rfl h
  | succ n => rfl

/-- Call 2's proof data at `W`: its arrays at `W`, each input's buffer left at its block, the output's at `out2`. -/
def dat2 (c : Dev nD) : Dat τ (Elt F) Unit ℕ (UR sig nD τ) ℕ cfg2 c where
  A w := W c (Pipeline.arrRef spec2 w)
  after w t := match w with
    | ⟨0, _⟩ => blk2 W c 0 t
    | ⟨1, _⟩ => blk2 W c 1 t
    | ⟨2, _⟩ => blk2 W c 2 t
    | ⟨3, _⟩ => blk2 W c 3 t
    | ⟨4, _⟩ => blk2 W c 4 t
    | ⟨5, _⟩ => blk2 W c 5 t
    | ⟨6, _⟩ => blk2 W c 6 t
    | ⟨7, _⟩ => blk2 W c 7 t
    | ⟨8, _⟩ => blk2 W c 8 t
    | ⟨9, _⟩ => blk2 W c 9 t
    | ⟨10, _⟩ => out2 W c t
  Φ t := inv2 W c t.val
  q _ := fullShare
  owed _ := 0

/-- The arrays of call 2's proof data are `W`'s. -/
theorem dat2_A (c : Dev nD) (w : Fin cfg2.W) : (dat2 W c).A w = W c (Pipeline.arrRef spec2 w) := by
  dsimp only [dat2]

/-- Input window 0 of call 2 is left at its block, and found at it. -/
theorem after2_0 (c : Dev nD) (t : Fin cfg2.N) : (dat2 W c).after 0 t = blk2 W c 0 t := by dsimp only [dat2]
theorem before2_0 (c : Dev nD) (t : Fin cfg2.N) (d) : (dat2 W c).before 0 t d = blk2 W c 0 t :=
  ((dat2 W c).before_in_eq_fetched 0 rfl (fun _ => rfl) (fun _ _ _ => rfl) (fun t => by rw [after2_0]; unfold Dat.blockOf blk2; rw [dat2_A]; try rfl) t d).trans
    (by unfold Dat.fetched Dat.blockOf blk2; rw [dat2_A]; try rfl)
theorem leaves2_0 (c : Dev nD) (t : Fin cfg2.N) :
    (dat2 W c).leavesExact 0 t = owns (c : Thread nD τ) (st2_0 t) fullShare (blk2 W c 0 t) := by
  unfold Dat.leavesExact; rw [show cfg2.idle 0 (cfg2.grid.coords t) = false from rfl, after2_0]

/-- Input window 1 of call 2 is left at its block, and found at it. -/
theorem after2_1 (c : Dev nD) (t : Fin cfg2.N) : (dat2 W c).after 1 t = blk2 W c 1 t := by dsimp only [dat2]
theorem before2_1 (c : Dev nD) (t : Fin cfg2.N) (d) : (dat2 W c).before 1 t d = blk2 W c 1 t :=
  ((dat2 W c).before_in_eq_fetched 1 rfl (fun _ => rfl) (fun _ _ _ => rfl) (fun t => by rw [after2_1]; unfold Dat.blockOf blk2; rw [dat2_A]; try rfl) t d).trans
    (by unfold Dat.fetched Dat.blockOf blk2; rw [dat2_A]; try rfl)
theorem leaves2_1 (c : Dev nD) (t : Fin cfg2.N) :
    (dat2 W c).leavesExact 1 t = owns (c : Thread nD τ) (st2_1 t) fullShare (blk2 W c 1 t) := by
  unfold Dat.leavesExact; rw [show cfg2.idle 1 (cfg2.grid.coords t) = false from rfl, after2_1]

/-- Input window 2 of call 2 is left at its block, and found at it. -/
theorem after2_2 (c : Dev nD) (t : Fin cfg2.N) : (dat2 W c).after 2 t = blk2 W c 2 t := by dsimp only [dat2]
theorem before2_2 (c : Dev nD) (t : Fin cfg2.N) (d) : (dat2 W c).before 2 t d = blk2 W c 2 t :=
  ((dat2 W c).before_in_eq_fetched 2 rfl (fun _ => rfl) (fun _ _ _ => rfl) (fun t => by rw [after2_2]; unfold Dat.blockOf blk2; rw [dat2_A]; try rfl) t d).trans
    (by unfold Dat.fetched Dat.blockOf blk2; rw [dat2_A]; try rfl)
theorem leaves2_2 (c : Dev nD) (t : Fin cfg2.N) :
    (dat2 W c).leavesExact 2 t = owns (c : Thread nD τ) (st2_2 t) fullShare (blk2 W c 2 t) := by
  unfold Dat.leavesExact; rw [show cfg2.idle 2 (cfg2.grid.coords t) = false from rfl, after2_2]

/-- Input window 3 of call 2 is left at its block, and found at it. -/
theorem after2_3 (c : Dev nD) (t : Fin cfg2.N) : (dat2 W c).after 3 t = blk2 W c 3 t := by dsimp only [dat2]
theorem before2_3 (c : Dev nD) (t : Fin cfg2.N) (d) : (dat2 W c).before 3 t d = blk2 W c 3 t :=
  ((dat2 W c).before_in_eq_fetched 3 rfl (fun _ => rfl) (fun _ _ _ => rfl) (fun t => by rw [after2_3]; unfold Dat.blockOf blk2; rw [dat2_A]; try rfl) t d).trans
    (by unfold Dat.fetched Dat.blockOf blk2; rw [dat2_A]; try rfl)
theorem leaves2_3 (c : Dev nD) (t : Fin cfg2.N) :
    (dat2 W c).leavesExact 3 t = owns (c : Thread nD τ) (st2_3 t) fullShare (blk2 W c 3 t) := by
  unfold Dat.leavesExact; rw [show cfg2.idle 3 (cfg2.grid.coords t) = false from rfl, after2_3]

/-- Input window 4 of call 2 is left at its block, and found at it. -/
theorem after2_4 (c : Dev nD) (t : Fin cfg2.N) : (dat2 W c).after 4 t = blk2 W c 4 t := by dsimp only [dat2]
theorem before2_4 (c : Dev nD) (t : Fin cfg2.N) (d) : (dat2 W c).before 4 t d = blk2 W c 4 t :=
  ((dat2 W c).before_in_eq_fetched 4 rfl (fun _ => rfl) (fun _ _ _ => rfl) (fun t => by rw [after2_4]; unfold Dat.blockOf blk2; rw [dat2_A]; try rfl) t d).trans
    (by unfold Dat.fetched Dat.blockOf blk2; rw [dat2_A]; try rfl)
theorem leaves2_4 (c : Dev nD) (t : Fin cfg2.N) :
    (dat2 W c).leavesExact 4 t = owns (c : Thread nD τ) (st2_4 t) fullShare (blk2 W c 4 t) := by
  unfold Dat.leavesExact; rw [show cfg2.idle 4 (cfg2.grid.coords t) = false from rfl, after2_4]

/-- Input window 5 of call 2 is left at its block, and found at it. -/
theorem after2_5 (c : Dev nD) (t : Fin cfg2.N) : (dat2 W c).after 5 t = blk2 W c 5 t := by dsimp only [dat2]
theorem before2_5 (c : Dev nD) (t : Fin cfg2.N) (d) : (dat2 W c).before 5 t d = blk2 W c 5 t :=
  ((dat2 W c).before_in_eq_fetched 5 rfl (fun _ => rfl) (fun _ _ _ => rfl) (fun t => by rw [after2_5]; unfold Dat.blockOf blk2; rw [dat2_A]; try rfl) t d).trans
    (by unfold Dat.fetched Dat.blockOf blk2; rw [dat2_A]; try rfl)
theorem leaves2_5 (c : Dev nD) (t : Fin cfg2.N) :
    (dat2 W c).leavesExact 5 t = owns (c : Thread nD τ) (st2_5 t) fullShare (blk2 W c 5 t) := by
  unfold Dat.leavesExact; rw [show cfg2.idle 5 (cfg2.grid.coords t) = false from rfl, after2_5]

/-- Input window 6 of call 2 is left at its block, and found at it. -/
theorem after2_6 (c : Dev nD) (t : Fin cfg2.N) : (dat2 W c).after 6 t = blk2 W c 6 t := by dsimp only [dat2]
theorem before2_6 (c : Dev nD) (t : Fin cfg2.N) (d) : (dat2 W c).before 6 t d = blk2 W c 6 t :=
  ((dat2 W c).before_in_eq_fetched 6 rfl (fun _ => rfl) (fun _ _ _ => rfl) (fun t => by rw [after2_6]; unfold Dat.blockOf blk2; rw [dat2_A]; try rfl) t d).trans
    (by unfold Dat.fetched Dat.blockOf blk2; rw [dat2_A]; try rfl)
theorem leaves2_6 (c : Dev nD) (t : Fin cfg2.N) :
    (dat2 W c).leavesExact 6 t = owns (c : Thread nD τ) (st2_6 t) fullShare (blk2 W c 6 t) := by
  unfold Dat.leavesExact; rw [show cfg2.idle 6 (cfg2.grid.coords t) = false from rfl, after2_6]

/-- Input window 7 of call 2 is left at its block, and found at it. -/
theorem after2_7 (c : Dev nD) (t : Fin cfg2.N) : (dat2 W c).after 7 t = blk2 W c 7 t := by dsimp only [dat2]
theorem before2_7 (c : Dev nD) (t : Fin cfg2.N) (d) : (dat2 W c).before 7 t d = blk2 W c 7 t :=
  ((dat2 W c).before_in_eq_fetched 7 rfl (fun _ => rfl) (fun _ _ _ => rfl) (fun t => by rw [after2_7]; unfold Dat.blockOf blk2; rw [dat2_A]; try rfl) t d).trans
    (by unfold Dat.fetched Dat.blockOf blk2; rw [dat2_A]; try rfl)
theorem leaves2_7 (c : Dev nD) (t : Fin cfg2.N) :
    (dat2 W c).leavesExact 7 t = owns (c : Thread nD τ) (st2_7 t) fullShare (blk2 W c 7 t) := by
  unfold Dat.leavesExact; rw [show cfg2.idle 7 (cfg2.grid.coords t) = false from rfl, after2_7]

/-- Input window 8 of call 2 is left at its block, and found at it. -/
theorem after2_8 (c : Dev nD) (t : Fin cfg2.N) : (dat2 W c).after 8 t = blk2 W c 8 t := by dsimp only [dat2]
theorem before2_8 (c : Dev nD) (t : Fin cfg2.N) (d) : (dat2 W c).before 8 t d = blk2 W c 8 t :=
  ((dat2 W c).before_in_eq_fetched 8 rfl (fun _ => rfl) (fun _ _ _ => rfl) (fun t => by rw [after2_8]; unfold Dat.blockOf blk2; rw [dat2_A]; try rfl) t d).trans
    (by unfold Dat.fetched Dat.blockOf blk2; rw [dat2_A]; try rfl)
theorem leaves2_8 (c : Dev nD) (t : Fin cfg2.N) :
    (dat2 W c).leavesExact 8 t = owns (c : Thread nD τ) (st2_8 t) fullShare (blk2 W c 8 t) := by
  unfold Dat.leavesExact; rw [show cfg2.idle 8 (cfg2.grid.coords t) = false from rfl, after2_8]

/-- Input window 9 of call 2 is left at its block, and found at it. -/
theorem after2_9 (c : Dev nD) (t : Fin cfg2.N) : (dat2 W c).after 9 t = blk2 W c 9 t := by dsimp only [dat2]
theorem before2_9 (c : Dev nD) (t : Fin cfg2.N) (d) : (dat2 W c).before 9 t d = blk2 W c 9 t :=
  ((dat2 W c).before_in_eq_fetched 9 rfl (fun _ => rfl) (fun _ _ _ => rfl) (fun t => by rw [after2_9]; unfold Dat.blockOf blk2; rw [dat2_A]; try rfl) t d).trans
    (by unfold Dat.fetched Dat.blockOf blk2; rw [dat2_A]; try rfl)
theorem leaves2_9 (c : Dev nD) (t : Fin cfg2.N) :
    (dat2 W c).leavesExact 9 t = owns (c : Thread nD τ) (st2_9 t) fullShare (blk2 W c 9 t) := by
  unfold Dat.leavesExact; rw [show cfg2.idle 9 (cfg2.grid.coords t) = false from rfl, after2_9]

/-- Call 2's output window is left at `out2`. -/
theorem after2_10 (c : Dev nD) (t : Fin cfg2.N) : (dat2 W c).after 10 t = out2 W c t := by dsimp only [dat2]

/-- What call 2's body is entered with at point `t`, window by window. -/
def bodyPre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d))
    ∗ (∃ d, owns (c : Thread nD τ) (st2_5 t) fullShare ((dat2 W c).before 5 t d))
    ∗ (∃ d, owns (c : Thread nD τ) (st2_6 t) fullShare ((dat2 W c).before 6 t d))
    ∗ (∃ d, owns (c : Thread nD τ) (st2_7 t) fullShare ((dat2 W c).before 7 t d))
    ∗ (∃ d, owns (c : Thread nD τ) (st2_8 t) fullShare ((dat2 W c).before 8 t d))
    ∗ (∃ d, owns (c : Thread nD τ) (st2_9 t) fullShare ((dat2 W c).before 9 t d))
    ∗ (∃ d, owns (c : Thread nD τ) (st2_10 t) fullShare ((dat2 W c).before 10 t d)))

/-- What call 2's body leaves at point `t`, window by window. -/
def bodyPost2 (c : Dev nD) (t : Fin cfg2.N) : sProp 𝕄 :=
  iprop((dat2 W c).Φ t.succ ∗ (dat2 W c).owesAt () t.succ
    ∗ (dat2 W c).leavesExact 0 t
    ∗ (dat2 W c).leavesExact 1 t
    ∗ (dat2 W c).leavesExact 2 t
    ∗ (dat2 W c).leavesExact 3 t
    ∗ (dat2 W c).leavesExact 4 t
    ∗ (dat2 W c).leavesExact 5 t
    ∗ (dat2 W c).leavesExact 6 t
    ∗ (dat2 W c).leavesExact 7 t
    ∗ (dat2 W c).leavesExact 8 t
    ∗ (dat2 W c).leavesExact 9 t
    ∗ (dat2 W c).leavesExact 10 t)

/-- Call 2's output window is left at `out2` at the last point, and as it was found before it. -/
theorem leaves2_last (c : Dev nD) (t : Fin cfg2.N) (h : t.val % 98 = 97) :
    (dat2 W c).leavesExact 10 t = owns (c : Thread nD τ) (st2_10 t) fullShare (out2 W c t) := by
  unfold Dat.leavesExact
  rw [show cfg2.idle 10 (cfg2.grid.coords t) = false from by
    show (!(k2_cond2 (grid2.coords t) == 1#1)) = false
    rw [show k2_cond2 (grid2.coords t) = 1#1 from (last2_iff t).mpr h]; rfl, after2_10]

theorem leaves2_idle (c : Dev nD) (t : Fin cfg2.N) (h : ¬ t.val % 98 = 97) :
    (dat2 W c).leavesExact 10 t = iprop(∃ d, owns (c : Thread nD τ) (st2_10 t) fullShare ((dat2 W c).before 10 t d)) :=
  Dat.leavesExact_idle (dat2 W c) 10 t (by
    show (!(k2_cond2 (grid2.coords t) == 1#1)) = true
    rw [beq_eq_false_iff_ne.mpr (fun e => h ((last2_iff t).mp e))]; rfl)
    (by rw [← Bool.not_eq_true]; exact fun e => h ((flush2_10 t).mp e))

set_option maxHeartbeats 4000000 in
/-- Call 2's body at any point, from its blocks and the accumulators before the point to the accumulators after it. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2, before2_3, before2_4, before2_5, before2_6, before2_7, before2_8, before2_9]
  rw [leaves2_0, leaves2_1, leaves2_2, leaves2_3, leaves2_4, leaves2_5, leaves2_6, leaves2_7, leaves2_8, leaves2_9,
    show (dat2 W c).owesAt () t.succ = (dat2 W c).owesAt () t.castSucc from rfl,
    show (dat2 W c).Φ t.succ = inv2 W c (t.val + 1) from rfl,
    show (dat2 W c).Φ t.castSucc = inv2 W c t.val from rfl,
    inv2_pos W c (Nat.succ_ne_zero t.val)]
  have hN : t.val < 98 := lt_of_lt_of_eq t.isLt N_2
  by_cases hz : t.val = 0
  · have h0 : t.val % 98 = 0 := by omega
    have h1 : ¬ t.val % 98 = 97 := by omega
    rw [inv2_zero W c hz, leaves2_idle W c t h1, sums2_succ, cnts2_succ,
      show sums2 W c t.val = k2_pay4 from by rw [hz]; rfl, show cnts2 W c t.val = k2_pay5 from by rw [hz]; rfl]
    iintro ⟨⟨⟨HR, HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (pool_first c (grid2.coords t) _ _ _ _ _ _ _ _ _ _ _ _ _ _ _ _ _ _ _ _ _ _ _ _ _ _ ((first2_iff t).mpr h0) (fun h => h1 ((last2_iff t).mp h)) (blk2 W c 0 t) (blk2 W c 1 t) (blk2 W c 2 t) (blk2 W c 3 t) (blk2 W c 4 t) (blk2 W c 5 t) (blk2 W c 6 t) (blk2 W c 7 t) (blk2 W c 8 t) (blk2 W c 9 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [HC]; · iexact HC
    iintro ⟨H0, H1, H2, H3, H4, H5, H6, H7, H8, H9, H10, HS, HC⟩
    isplitl [HR HS HC Hg]
    · isplitl [HR HS HC]
      · isplitl [HR]; · iexact HR
        isplitl [HS]; · iexact HS
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10

  have h0 : ¬ t.val % 98 = 0 := by omega
  by_cases h1 : t.val % 98 = 97
  · rw [inv2_pos W c hz, leaves2_last W c t h1]
    unfold out2
    rw [sums2_succ, cnts2_succ]
    iintro ⟨⟨⟨HR, HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (pool_last c (grid2.coords t) _ _ _ _ _ _ _ _ _ _ _ _ _ _ _ _ _ _ _ _ _ _ _ _ _ _ (fun h => h0 ((first2_iff t).mp h)) ((last2_iff t).mpr h1) (blk2 W c 0 t) (blk2 W c 1 t) (blk2 W c 2 t) (blk2 W c 3 t) (blk2 W c 4 t) (blk2 W c 5 t) (blk2 W c 6 t) (blk2 W c 7 t) (blk2 W c 8 t) (blk2 W c 9 t) (sums2 W c t.val) (cnts2 W c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    isplitl [HC]; · iexact HC
    iintro ⟨H0, H1, H2, H3, H4, H5, H6, H7, H8, H9, H10, HS, HC⟩
    isplitl [HR HS HC Hg]
    · isplitl [HR HS HC]
      · isplitl [HR]; · iexact HR
        isplitl [HS]; · iexact HS
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

  · rw [inv2_pos W c hz, leaves2_idle W c t h1, sums2_succ, cnts2_succ]
    iintro ⟨⟨⟨HR, HS, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (pool_mid c (grid2.coords t) _ _ _ _ _ _ _ _ _ _ _ _ _ _ _ _ _ _ _ _ _ _ _ _ _ _ (fun h => h0 ((first2_iff t).mp h)) (fun h => h1 ((last2_iff t).mp h)) (blk2 W c 0 t) (blk2 W c 1 t) (blk2 W c 2 t) (blk2 W c 3 t) (blk2 W c 4 t) (blk2 W c 5 t) (blk2 W c 6 t) (blk2 W c 7 t) (blk2 W c 8 t) (blk2 W c 9 t) (sums2 W c t.val) (cnts2 W c t.val) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [HC]; · iexact HC
    iintro ⟨H0, H1, H2, H3, H4, H5, H6, H7, H8, H9, H10, HS, HC⟩
    isplitl [HR HS HC Hg]
    · isplitl [HR HS HC]
      · isplitl [HR]; · iexact HR
        isplitl [HS]; · iexact HS
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10

/-- The body table's row of call 2. -/
theorem row2 (t : Fin cfg2.N) : (defs₀ (F := F)) .tc cfg2.body (cfg2.bodyArgs t (cfg2.slots t)) = bodyAt2 t := by
  unfold defs₀; rw [Defs.onTc_tc]

/-- Call 2's body meets its obligation at every point. -/
theorem body_obligation2 (c : Dev nD) : BodyObligation (dat2 (F := F) W c) (defs₀ (F := F)) Variants.none () Set.univ := fun t => by
  rw [bigSep_W2, bigSep_W2, row2]
  exact triple_restated (sound_body2 W c t) rfl .rfl fun _ => .rfl

/-- After the last point the invariant gives the scratch buffers back at some contents. -/
theorem inv2_out (c : Dev nD) : inv2 W c cfg2.N ⊢ iprop(Pipeline.scopedRest spec2 c ∗ (∃ r, prngReg c r)) := by
  rw [inv2_pos W c (show cfg2.N ≠ 0 by rw [show cfg2.N = 98 from N_2]; decide), scopedRest2_split]
  iintro ⟨⟨HR, HS, HC⟩, Hg⟩
  isplitl [HR HS HC]
  · isplitl [HR]; · iexact HR
    isplitl [HS]; · iexists _; iexact HS
    iexists _; iexact HC
  iexact Hg

end Cert.KernelIdeal.Run
-- ==== Proof.IdealRun.lean ====
/-  The whole run of `KernelIdeal`: its host stretches and its three pipelined calls in order, every buffer left at
    the last of the valuations between them; and from it that the arguments end as they were.  -/
module

public import proofs.«01_k».proof.Proof.IdealRegions
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg afterRegion)

variable {F : FTy → Type} [FloatOps F]

local notation "𝕄" => MT nD τ sig Unit (Elt F) ℕ (UR sig nD τ) ℕ

/-- What a call leaves differs from what it entered only at its one output's array. -/
theorem afterRegion_eq_update {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w))) (r : Ref sig .tc)
    (hr : ∀ w, (cfg.win w).isOut = true → Pipeline.arrRef cfg.spec w = r) :
    afterRegion dat V = Function.update V (Proc.devRef .tc r) (afterRegion dat V (Proc.devRef .tc r)) := by
  funext b
  by_cases hb : b = Proc.devRef .tc r
  · subst hb; rw [Function.update_self]
  · rw [Function.update_of_ne hb]
    by_cases hw : ∃ w, b = Proc.devRef .tc (Pipeline.arrRef cfg.spec w)
    · obtain ⟨w, rfl⟩ := hw
      refine Pipeline.afterRegion_keeps dat V hinj hA _ fun w' e => ?_
      by_contra ho
      exact hb (by rw [← e, hr w' (by simpa using ho)])
    · unfold afterRegion
      rw [dif_neg hw]

variable (m : (ℓ : Loc nD τ sig) → Buf (Elt F) ℓ) (ρ : Dev nD → PrngReg)

/-- What the first call leaves. -/
def outsA : Outs (F := F) := fun _ r c => afterRegion (dat0 (V1 m) c) (V1 m c) r

/-- What the first two calls leave. -/
def outsB : Outs (F := F)
  | 2, r, c => outsA m 2 r c
  | _, r, c => afterRegion (dat1 (V3 m (outsA m)) c) (V3 m (outsA m) c) r

/-- What the three calls leave. -/
def outs : Outs (F := F)
  | 2, r, c => outsA m 2 r c
  | 4, r, c => outsB m 4 r c
  | _, r, c => afterRegion (dat2 (V5 m (outsB m)) c) (V5 m (outsB m) c) r

/-- The buffers after the first call, at what it leaves. -/
theorem V2_eq (c : Dev nD) : afterRegion (dat0 (V1 m) c) (V1 m c) = V2 m (outs m) c :=
  afterRegion_eq_update (dat0 (V1 m) c) (V1 m c) winFacts0.arr_inj (fun w => dat0_A _ c w) main_v42 (by decide)

/-- The buffers after the second call, at what it leaves. -/
theorem V4_eq (c : Dev nD) : afterRegion (dat1 (V3 m (outs m)) c) (V3 m (outs m) c) = V4 m (outs m) c :=
  afterRegion_eq_update (dat1 (V3 m (outs m)) c) (V3 m (outs m) c) winFacts1.arr_inj (fun w => dat1_A _ c w) main_v54 (by decide)

/-- The buffers after the third call, at what it leaves. -/
theorem V6_eq (c : Dev nD) : afterRegion (dat2 (V5 m (outs m)) c) (V5 m (outs m) c) = V6 m (outs m) c :=
  afterRegion_eq_update (dat2 (V5 m (outs m)) c) (V5 m (outs m) c) winFacts2.arr_inj (fun w => dat2_A _ c w) main_v66 (by decide)

/-- The three calls' proof data, each entered at the valuation before it. -/
def pdats : (p : Fin 3) → (c : Dev nD) → Dat τ (Elt F) Unit ℕ (UR sig nD τ) ℕ (cfgs p) c
  | 0, c => dat0 (V1 m) c
  | 1, c => dat1 (V3 m (outs m)) c
  | 2, c => dat2 (V5 m (outs m)) c

/-- Every TensorCore counter may be awaited, at one level. -/
def lset (g : GSem nD τ sig) : Finset Unit := if g.1.2 = .tc then {()} else ∅

/-- The generator register at some state. -/
abbrev prng (c : Dev nD) : sProp 𝕄 := iprop(∃ r, prngReg c r)

/-- What rides between segments beside the buffers: the core owing nothing and its generator register. -/
abbrev ride (_ : Fin 4) (c : Dev nD) : sProp 𝕄 :=
  iprop((∃ Wd, owes (c : Thread nD τ) (0 : CellTallies nD τ sig Unit) Wd) ∗ prng c ∗ emp)

set_option backward.isDefEq.respectTransparency.types false in
/-- Call 0's segment: entered at the valuation before it, left at the one after it. -/
def reg0 : RegionSeg (pcfgs (F := F)) adm (pdats m) () defs₀ Variants.none lset (fun _ _ => 0) 0 :=
  RegionSeg.ofHeldIn (pcfgs (F := F)) adm (pdats m) () defs₀ Variants.none lset (fun _ _ => 0) 0 (fun _ => 0)
    (Pipeline.ucRefs τ sig) prng prng launch0.toP rfl (fun c => (body_obligation0 (V1 m) c).loose) (fun _ _ => rfl) (fun _ => rfl)
    (fun _ w => by unfold Dat.share; split <;> rfl) (fun c => .rfl) (fun c => .rfl) (fun _ => 0)
    ⟨fun _ _ _ => by simp [lset], fun _ _ _ => le_refl _, fun _ _ _ h => absurd h (by simp)⟩ (fun _ => iprop(emp)) (V1 m) (fun c w => dat0_A _ c w)

/-- Call 0's arrays are unscoped. -/
theorem arrs0 : Pipeline.arrRefs (τ := τ) (pcfgs (F := F) 0).spec ⊆ Pipeline.ucRefs τ sig :=
  Pipeline.arrRefs_sub_ucRefs spec0 winFacts0.arr_unscoped

set_option backward.isDefEq.respectTransparency.types false in
theorem reg0_pre (c : Dev nD) : iprop(StableHlo.held (c : Thread nD τ) (Pipeline.ucRefs τ sig) (V1 m c) ∗ ride 0 c) ⊢ (reg0 m).pre c := by
  unfold reg0
  exact RegionSeg.ofHeldIn_pre (pcs := pcfgs (F := F)) (a := adm) (pdats := pdats m) (ι := ()) (defs₀ := defs₀) (𝒱₀ := Variants.none) (L := lset)
    (lv := fun _ _ => 0) (D := fun _ => 0) (p := 0) (S := Pipeline.ucRefs τ sig) (X := prng) (Y := prng) (R := fun _ => iprop(emp)) (W := V1 m) (arrs0 (F := F)) c

set_option backward.isDefEq.respectTransparency.types false in
theorem reg0_post (c : Dev nD) : (reg0 m).post c ⊢ iprop(StableHlo.held (c : Thread nD τ) (Pipeline.ucRefs τ sig) (V2 m (outs m) c) ∗ ride 1 c) := by
  rw [← V2_eq m c]
  unfold reg0
  exact RegionSeg.ofHeldIn_post (pcs := pcfgs (F := F)) (a := adm) (pdats := pdats m) (ι := ()) (defs₀ := defs₀) (𝒱₀ := Variants.none) (L := lset)
    (lv := fun _ _ => 0) (D := fun _ => 0) (p := 0) (S := Pipeline.ucRefs τ sig) (X := prng) (Y := prng) (R := fun _ => iprop(emp)) (W := V1 m) (arrs0 (F := F)) c

set_option backward.isDefEq.respectTransparency.types false in
/-- Call 1's segment: entered at the valuation before it, left at the one after it. -/
def reg1 : RegionSeg (pcfgs (F := F)) adm (pdats m) () defs₀ Variants.none lset (fun _ _ => 0) 1 :=
  RegionSeg.ofHeldIn (pcfgs (F := F)) adm (pdats m) () defs₀ Variants.none lset (fun _ _ => 0) 1 (fun _ => 0)
    (Pipeline.ucRefs τ sig) prng prng launch1.toP rfl (fun c => (body_obligation1 (V3 m (outs m)) c).loose) (fun _ _ => rfl) (fun _ => rfl)
    (fun _ w => by unfold Dat.share; split <;> rfl) (fun c => .rfl) (fun c => .rfl) (fun _ => 0)
    ⟨fun _ _ _ => by simp [lset], fun _ _ _ => le_refl _, fun _ _ _ h => absurd h (by simp)⟩ (fun _ => iprop(emp)) (V3 m (outs m)) (fun c w => dat1_A _ c w)

/-- Call 1's arrays are unscoped. -/
theorem arrs1 : Pipeline.arrRefs (τ := τ) (pcfgs (F := F) 1).spec ⊆ Pipeline.ucRefs τ sig :=
  Pipeline.arrRefs_sub_ucRefs spec1 winFacts1.arr_unscoped

set_option backward.isDefEq.respectTransparency.types false in
theorem reg1_pre (c : Dev nD) : iprop(StableHlo.held (c : Thread nD τ) (Pipeline.ucRefs τ sig) (V3 m (outs m) c) ∗ ride 1 c) ⊢ (reg1 m).pre c := by
  unfold reg1
  exact RegionSeg.ofHeldIn_pre (pcs := pcfgs (F := F)) (a := adm) (pdats := pdats m) (ι := ()) (defs₀ := defs₀) (𝒱₀ := Variants.none) (L := lset)
    (lv := fun _ _ => 0) (D := fun _ => 0) (p := 1) (S := Pipeline.ucRefs τ sig) (X := prng) (Y := prng) (R := fun _ => iprop(emp)) (W := V3 m (outs m)) (arrs1 (F := F)) c

set_option backward.isDefEq.respectTransparency.types false in
theorem reg1_post (c : Dev nD) : (reg1 m).post c ⊢ iprop(StableHlo.held (c : Thread nD τ) (Pipeline.ucRefs τ sig) (V4 m (outs m) c) ∗ ride 2 c) := by
  rw [← V4_eq m c]
  unfold reg1
  exact RegionSeg.ofHeldIn_post (pcs := pcfgs (F := F)) (a := adm) (pdats := pdats m) (ι := ()) (defs₀ := defs₀) (𝒱₀ := Variants.none) (L := lset)
    (lv := fun _ _ => 0) (D := fun _ => 0) (p := 1) (S := Pipeline.ucRefs τ sig) (X := prng) (Y := prng) (R := fun _ => iprop(emp)) (W := V3 m (outs m)) (arrs1 (F := F)) c

set_option backward.isDefEq.respectTransparency.types false in
/-- Call 2's segment: entered at the valuation before it, left at the one after it. -/
def reg2 : RegionSeg (pcfgs (F := F)) adm (pdats m) () defs₀ Variants.none lset (fun _ _ => 0) 2 :=
  RegionSeg.ofHeldIn (pcfgs (F := F)) adm (pdats m) () defs₀ Variants.none lset (fun _ _ => 0) 2 (fun _ => 0)
    (Pipeline.ucRefs τ sig) prng prng launch2.toP rfl (fun c => (body_obligation2 (V5 m (outs m)) c).loose) (fun _ _ => rfl) (fun _ => rfl)
    (fun _ w => by unfold Dat.share; split <;> rfl) (fun c => .rfl) (fun c => inv2_out (V5 m (outs m)) c) (fun _ => 0)
    ⟨fun _ _ _ => by simp [lset], fun _ _ _ => le_refl _, fun _ _ _ h => absurd h (by simp)⟩ (fun _ => iprop(emp)) (V5 m (outs m)) (fun c w => dat2_A _ c w)

/-- Call 2's arrays are unscoped. -/
theorem arrs2 : Pipeline.arrRefs (τ := τ) (pcfgs (F := F) 2).spec ⊆ Pipeline.ucRefs τ sig :=
  Pipeline.arrRefs_sub_ucRefs spec2 winFacts2.arr_unscoped

set_option backward.isDefEq.respectTransparency.types false in
theorem reg2_pre (c : Dev nD) : iprop(StableHlo.held (c : Thread nD τ) (Pipeline.ucRefs τ sig) (V5 m (outs m) c) ∗ ride 2 c) ⊢ (reg2 m).pre c := by
  unfold reg2
  exact RegionSeg.ofHeldIn_pre (pcs := pcfgs (F := F)) (a := adm) (pdats := pdats m) (ι := ()) (defs₀ := defs₀) (𝒱₀ := Variants.none) (L := lset)
    (lv := fun _ _ => 0) (D := fun _ => 0) (p := 2) (S := Pipeline.ucRefs τ sig) (X := prng) (Y := prng) (R := fun _ => iprop(emp)) (W := V5 m (outs m)) (arrs2 (F := F)) c

set_option backward.isDefEq.respectTransparency.types false in
theorem reg2_post (c : Dev nD) : (reg2 m).post c ⊢ iprop(StableHlo.held (c : Thread nD τ) (Pipeline.ucRefs τ sig) (V6 m (outs m) c) ∗ ride 3 c) := by
  rw [← V6_eq m c]
  unfold reg2
  exact RegionSeg.ofHeldIn_post (pcs := pcfgs (F := F)) (a := adm) (pdats := pdats m) (ι := ()) (defs₀ := defs₀) (𝒱₀ := Variants.none) (L := lset)
    (lv := fun _ _ => 0) (D := fun _ => 0) (p := 2) (S := Pipeline.ucRefs τ sig) (X := prng) (Y := prng) (R := fun _ => iprop(emp)) (W := V5 m (outs m)) (arrs2 (F := F)) c

set_option backward.isDefEq.respectTransparency.types false in
/-- From any memory with zero counters every execution of the kernel's main program ends, with every unscoped buffer
    of every core at the last valuation and every counter at zero. -/
theorem run_all : θ_run defs (onTc (τ := τ) (main (F := F))) ⟨m, fun _ => 0, ρ⟩ (fun r =>
    (∀ c : Dev nD, ∀ b ∈ Pipeline.ucRefs τ sig, r.2.mem (((c : Thread nD τ).1, b)) = V7 m (outs m) c b) ∧ r.2.sem = fun _ => 0) := by
  refine Pipeline.θ_run_regions_kit_dev_sems (pcfgs (F := F)) adm (pdats m) () cellOf_inj emb₁ defs₀ Variants.none lset (fun _ _ => 0) m ρ main
    (segs m (outs m) Variants.none lset (fun _ _ => 0) ride () (pdats m) (reg0 m) (reg1 m) (reg2 m))
    (fun c Q => by
      rewrite [main_chain c, Seg.run_eq_chain,
        show (segs m (outs m) Variants.none lset (fun _ _ => 0) ride () (pdats m) (reg0 m) (reg1 m) (reg2 m) c).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3] from rfl]
      dsimp (config := { failIfUnchanged := false }) only
      exact .rfl)
    (fun c => by simp only [segs, Seg.pipes_host, Seg.pipes_region, Seg.pipes_nil]; decide)
    (O₀ := fun _ => 0) (hL := fun g hg => by simp [lset, hg]) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      · iapply (show BI.emp ⊢ bigSep Finset.univ (fun _ : Dev nD => (BI.emp : sProp 𝕄)) from by rw [BI.bigSep_emp_const])
        iempintro)
    (T₀ := fun c => iprop(StableHlo.held (c : Thread nD τ) (Pipeline.ucRefs τ sig) (V0 m c) ∗ ride 0 c))
    (Tₙ := fun c => StableHlo.held (c : Thread nD τ) (Pipeline.ucRefs τ sig) (V7 m (outs m) c))
    (hch := fun c => ⟨.rfl, reg0_pre m c, reg0_post m c, reg1_pre m c, reg1_post m c, reg2_pre m c, reg2_post m c, sep_mono .rfl sep_elim_left⟩)
    (hinit := ?_) (QY := fun c s => ∀ b ∈ Pipeline.ucRefs τ sig, s.mem (((c : Thread nD τ).1, b)) = V7 m (outs m) c b)
    (hfin := fun c s' => ?_) (hQ := fun _ h hz => ⟨h, funext fun g => hz g (.inr (regions_no_unscoped g.2))⟩)
  · have hone : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) : sProp 𝕄)
        ⊢ iprop(StableHlo.held (c : Thread nD τ) (Pipeline.ucRefs τ sig) (V0 m c) ∗ ride 0 c) := fun c => by
      rw [← Pipeline.unscopedBufs_held (Ix := Unit) (Name := ℕ) (U := UR sig nD τ) (Lvl := ℕ) c (V0 m c)]
      iintro ⟨Hb, Hs, Ho, Hc, Hp, Hg⟩
      isplitl [Hb]; · iexact Hb
      isplitl [Ho]; · iexists _; iexact Ho
      isplitl [Hp]; · iexists _; iexact Hp
      iempintro
    iintro ⟨H, Hla⟩
    ihave H' := (show (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) : sProp 𝕄))
        ⊢ bigSep Finset.univ fun c : Dev nD => iprop(StableHlo.held (c : Thread nD τ) (Pipeline.ucRefs τ sig) (V0 m c) ∗ ride 0 c) from bigSep_mono fun c _ => hone c) $$ H
    imodintro
    iexact H'
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro; exact h
    · iexact HSI

/-- A host buffer is unscoped. -/
theorem mem_uc (r : Ref sig .tc) (h : (Proc.devRef (τ := τ) .tc r).isScoped = false) : Proc.devRef .tc r ∈ Pipeline.ucRefs τ sig :=
  Finset.mem_filter.mpr ⟨StableHlo.devRef_mem_tcRefs r, by simpa using h⟩

/-- The run with its result named: the result buffer at the last valuation, the arguments as they were, the counters
    at zero. -/
theorem run_result : θ_run defs (onTc (τ := τ) (main (F := F))) ⟨m, fun _ => 0, ρ⟩ (fun r => (∀ c : Dev nD,
      r.2.mem ((c.tc : Thread nD τ).loc main_v67) = V7 m (outs m) c main_v67
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ hh => let h := hh.1; ⟨fun c => ⟨h c _ (mem_uc main_v67 (by decide)),
    (h c _ (mem_uc main_arg0 (by decide))).trans (V7_main_arg0 m (outs m) c),
    (h c _ (mem_uc main_arg1 (by decide))).trans (V7_main_arg1 m (outs m) c),
    (h c _ (mem_uc main_arg2 (by decide))).trans (V7_main_arg2 m (outs m) c),
    (h c _ (mem_uc main_arg3 (by decide))).trans (V7_main_arg3 m (outs m) c),
    (h c _ (mem_uc main_arg4 (by decide))).trans (V7_main_arg4 m (outs m) c),
    (h c _ (mem_uc main_arg5 (by decide))).trans (V7_main_arg5 m (outs m) c),
    (h c _ (mem_uc main_arg6 (by decide))).trans (V7_main_arg6 m (outs m) c),
    (h c _ (mem_uc main_arg7 (by decide))).trans (V7_main_arg7 m (outs m) c),
    (h c _ (mem_uc main_arg8 (by decide))).trans (V7_main_arg8 m (outs m) c),
    (h c _ (mem_uc main_arg9 (by decide))).trans (V7_main_arg9 m (outs m) c),
    (h c _ (mem_uc main_arg10 (by decide))).trans (V7_main_arg10 m (outs m) c),
    (h c _ (mem_uc main_arg11 (by decide))).trans (V7_main_arg11 m (outs m) c),
    (h c _ (mem_uc main_arg12 (by decide))).trans (V7_main_arg12 m (outs m) c),
    (h c _ (mem_uc main_arg13 (by decide))).trans (V7_main_arg13 m (outs m) c),
    (h c _ (mem_uc main_arg14 (by decide))).trans (V7_main_arg14 m (outs m) c),
    (h c _ (mem_uc main_arg15 (by decide))).trans (V7_main_arg15 m (outs m) c),
    (h c _ (mem_uc main_arg16 (by decide))).trans (V7_main_arg16 m (outs m) c),
    (h c _ (mem_uc main_arg17 (by decide))).trans (V7_main_arg17 m (outs m) c),
    (h c _ (mem_uc main_arg18 (by decide))).trans (V7_main_arg18 m (outs m) c)⟩, hh.2⟩) (run_all m ρ)

/-- The kernel leaves its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ h => ⟨fun c => (h.1 c).2, h.2⟩) (run_result m ρ)

end Cert.KernelIdeal.Run
-- ==== Proof.Network.lean ====
/-  The network's mathematics over the extended reals, with no program in it: one message-passing layer, the mean over each
    graph and the two closing linear maps; and what padding with rows and columns of zeros changes of them, which is nothing.  -/
module

public import Idealize.ShloMosaic.PureOps.Ideal
public import Mathlib.Algebra.BigOperators.Fin

@[expose] public section

noncomputable section

namespace Cert.Network

open Idealize.ShloMosaic

/-- A node's row plus the rows of the nodes that point at it. -/
def gathered {E n C : ℕ} (src : Fin E → Fin n) (dst : Fin E → ℤ) (h : Fin n → Fin C → EReal) (r : Fin n) (k : Fin C) : EReal :=
  h r k + ∑ e, if dst e = (r.val : ℤ) then h (src e) k else 0

/-- A linear map with bias of one row, cut off below zero. -/
def linRelu {K J : ℕ} (w : Fin K → Fin J → EReal) (b : Fin J → EReal) (z : Fin K → EReal) (j : Fin J) : EReal :=
  max (∑ k, z k * w k j + b j) 0

/-- Two linear maps with biases of one row, each cut off below zero. -/
def twoLin {K J L : ℕ} (wa : Fin K → Fin J → EReal) (ba : Fin J → EReal) (wb : Fin J → Fin L → EReal) (bb : Fin L → EReal)
    (z : Fin K → EReal) (j : Fin L) : EReal :=
  linRelu wb bb (linRelu wa ba z) j

/-- One layer: every node's gathered row through the two linear maps. -/
def layer {E n K J L : ℕ} (src : Fin E → Fin n) (dst : Fin E → ℤ) (wa : Fin K → Fin J → EReal) (ba : Fin J → EReal)
    (wb : Fin J → Fin L → EReal) (bb : Fin L → EReal) (h : Fin n → Fin K → EReal) (r : Fin n) (j : Fin L) : EReal :=
  twoLin wa ba wb bb (gathered src dst h r) j

/-- The rows of a graph's nodes added up. -/
def graphSum {n C : ℕ} (batch : Fin n → ℤ) (h : Fin n → Fin C → EReal) (g : ℕ) (j : Fin C) : EReal :=
  ∑ r, if batch r = (g : ℤ) then h r j else 0

/-- A graph's number of nodes. -/
def graphCount {n : ℕ} (batch : Fin n → ℤ) (g : ℕ) : EReal :=
  ∑ r, if batch r = (g : ℤ) then (1 : EReal) else 0

/-- A graph's mean row (a graph with no node divides by one), through the two closing linear maps. -/
def head {J L M : ℕ} (s : Fin J → EReal) (n : EReal) (w1 : Fin J → Fin L → EReal) (b1 : Fin L → EReal) (w2 : Fin L → Fin M → EReal)
    (b2 : Fin M → EReal) (j : Fin M) : EReal :=
  ∑ l, linRelu w1 b1 (fun k => Ideal.div (s k) (max n 1)) l * w2 l j + b2 j

/-- Gathering among more nodes, no source among the added ones, gives the same rows where the arrays agree on the nodes kept. -/
theorem gathered_restrict {E n N C : ℕ} (hn : n ≤ N) (src : Fin E → Fin n) (src' : Fin E → Fin N) (dst : Fin E → ℤ)
    (h : Fin n → Fin C → EReal) (h' : Fin N → Fin C → EReal) (hs : ∀ e, src' e = Fin.castLE hn (src e))
    (hh : ∀ r k, h' (Fin.castLE hn r) k = h r k) (r : Fin n) (k : Fin C) :
    gathered src' dst h' (Fin.castLE hn r) k = gathered src dst h r k := by
  unfold gathered
  rw [hh]
  congr 1
  refine Finset.sum_congr rfl fun e _ => ?_
  rw [hs, hh]
  rfl

/-- A sum over a longer range whose added terms are zero. -/
theorem sum_extend {n N : ℕ} (hn : n ≤ N) (f : Fin N → EReal) (hz : ∀ k : Fin N, n ≤ k.val → f k = 0) :
    ∑ k, f k = ∑ k : Fin n, f (Fin.castLE hn k) := by
  obtain ⟨d, rfl⟩ := Nat.exists_eq_add_of_le hn
  rw [Fin.sum_univ_add]
  have h0 : ∑ i : Fin d, f (Fin.natAdd n i) = 0 := Finset.sum_eq_zero fun i _ => hz _ (by simp)
  rw [h0, add_zero]
  rfl

/-- Rows of zeros added to the weights make no difference, whatever the row's added entries are. -/
theorem linRelu_pad {K K' J : ℕ} (hK : K ≤ K') (w : Fin K → Fin J → EReal) (w' : Fin K' → Fin J → EReal) (b : Fin J → EReal)
    (z : Fin K → EReal) (z' : Fin K' → EReal) (hw : ∀ k j, w' (Fin.castLE hK k) j = w k j) (hw0 : ∀ k j, K ≤ k.val → w' k j = 0)
    (hz : ∀ k, z' (Fin.castLE hK k) = z k) (j : Fin J) : linRelu w' b z' j = linRelu w b z j := by
  unfold linRelu
  rw [sum_extend hK _ fun k hk => by rw [hw0 k j hk, mul_zero]]
  simp only [hw, hz]

/-- A sum over `T` blocks of `B` rows is the sum over the rows. -/
theorem sum_blocks {T B : ℕ} (f : ℕ → EReal) :
    ∑ t : Fin T, ∑ r : Fin B, f (B * t.val + r.val) = ∑ k : Fin (T * B), f k.val := by
  rw [← Fintype.sum_prod_type', ← finProdFinEquiv.sum_comp]
  refine Finset.sum_congr rfl fun x _ => congrArg f ?_
  simp [finProdFinEquiv, add_comm]

/-- A running total that starts at zero and takes one term a step is the sum of the terms. -/
theorem running_total {T : ℕ} (a : ℕ → EReal) (g : Fin T → EReal) (h0 : a 0 = 0) (hs : ∀ t : Fin T, a (t.val + 1) = a t.val + g t) :
    a T = ∑ t, g t := by
  induction T with
  | zero => simpa using h0
  | succ n ih =>
    rw [Fin.sum_univ_castSucc, ← ih (fun t => g t.castSucc) fun t => hs t.castSucc]
    exact hs (Fin.last n)

end Cert.Network

end
-- ==== Proof.Rows.lean ====
/-  What the host's scatters leave at an element, at any sizes: rows added into a matrix at row numbers given one word each, and
    arrays written into larger ones at the origin.  -/
module

public import Idealize.ShloMosaic.PureOps.Ideal
public import Idealize.ShloMosaic.Lib.Routing.OpsSet
public import Idealize.ShloMosaic.Lib.Routing.OpsOne

@[expose] public section

noncomputable section

namespace Cert.Rows

open Idealize.ShloMosaic Idealize.ShloMosaic.ValueIdx Idealize.ShloMosaic.Routing

/-- Element `(e, c')` of the rows added lands at `(r, c)` exactly when row `e`'s word, read signed, is `r` and the columns agree. -/
theorem row_lands {N C E w : ℕ} (wf : ScatterDims.WF (shape2 N C) (shape2 E 1) (shape2 E C) [1] [0] [0] 1)
    (idx : IVec (shape2 E 1) w) (e : Fin E) (c' : Fin C) (r : Fin N) (c : Fin C) :
    (⟨[1], [0], [0], 1, wf⟩ : ScatterDims (shape2 N C) (shape2 E 1) (shape2 E C)).resultIdx? (ix2 e c') idx = some (ix2 r c)
      ↔ (idx (ix2 e 0)).toInt = (r.val : ℤ) ∧ c' = c := by
  rw [resultIdx?_ix2]
  have h0 : (⟨[1], [0], [0], 1, wf⟩ : ScatterDims (shape2 N C) (shape2 E 1) (shape2 E C)).start (ix2 e c') idx 0
      = (idx (ix2 e 0)).toInt := by
    unfold ScatterDims.start
    rw [dif_pos (List.mem_singleton.2 rfl)]
    refine congrArg (fun i => (idx i).toInt) (funext fun b => Fin.ext ?_)
    match b with
    | ⟨0, _⟩ => rfl
    | ⟨1, _⟩ => rfl
  have h1 : (⟨[1], [0], [0], 1, wf⟩ : ScatterDims (shape2 N C) (shape2 E 1) (shape2 E C)).start (ix2 e c') idx 1 = 0 := rfl
  have w0 : (⟨[1], [0], [0], 1, wf⟩ : ScatterDims (shape2 N C) (shape2 E 1) (shape2 E C)).window (ix2 e c') 0 = 0 := rfl
  have w1 : (⟨[1], [0], [0], 1, wf⟩ : ScatterDims (shape2 N C) (shape2 E 1) (shape2 E C)).window (ix2 e c') 1 = c'.val := rfl
  rw [h0, h1, w0, w1]
  simp [Fin.ext_iff]

/-- Rows added at the row numbers their words give: row `r` gains every row whose word, read signed, is `r`; the others are dropped. -/
theorem rows_added {N C E w : ℕ} (wf : ScatterDims.WF (shape2 N C) (shape2 E 1) (shape2 E C) [1] [0] [0] 1)
    (x : FVec Ideal (shape2 N C) .f32) (idx : IVec (shape2 E 1) w) (upd : FVec Ideal (shape2 E C) .f32) (r : Fin N) (c : Fin C) :
    Host.scatterAdd (⟨[1], [0], [0], 1, wf⟩ : ScatterDims (shape2 N C) (shape2 E 1) (shape2 E C)) x idx upd (ix2 r c)
      = ((x (ix2 r c) : EReal) + ∑ e : Fin E, if (idx (ix2 e 0)).toInt = (r.val : ℤ) then (upd (ix2 e c) : EReal) else 0 : EReal) := by
  show Ideal.hostScatterAdd _ x idx upd (ix2 r c) = _
  unfold Ideal.hostScatterAdd
  refine congrArg (fun s : EReal => (x (ix2 r c) : EReal) + s) ?_
  rw [Finset.sum_filter, sum_idx2]
  refine Finset.sum_congr rfl fun e _ => ?_
  refine (Finset.sum_congr rfl fun c' _ => if_congr (row_lands wf idx e c' r c) rfl rfl).trans ?_
  by_cases h : (idx (ix2 e 0)).toInt = (r.val : ℤ)
  · simp [h]
  · simp [h]

/-- A matrix written at the origin of a matrix, the origin one word for each axis: inside it, the written element. -/
theorem block_inside {α : Type} {R C R' C' w : ℕ} (wf : ScatterDims.WF (shape2 R C) (shape1 2) (shape2 R' C') [0, 1] [] [0, 1] 0)
    (x : (shape2 R C).Idx → α) (idx : IVec (shape1 2) w) (hi : ∀ q, (idx q).toInt = 0) (upd : (shape2 R' C').Idx → α)
    (r : Fin R) (c : Fin C) (r' : Fin R') (c' : Fin C') (hr : r.val = r'.val) (hc : c.val = c'.val) :
    Host.scatter (⟨[0, 1], [], [0, 1], 0, wf⟩ : ScatterDims (shape2 R C) (shape1 2) (shape2 R' C')) (fun _ b => b) x idx upd (ix2 r c)
      = upd (ix2 r' c') := by
  have hl : ∀ k : (shape2 R' C').Idx, (⟨[0, 1], [], [0, 1], 0, wf⟩ : ScatterDims (shape2 R C) (shape1 2) (shape2 R' C')).resultIdx? k idx
      = some (ix2 r c) ↔ (k 0).val = r.val ∧ (k 1).val = c.val := fun k => by
    rw [resultIdx?_ix2, start_pair _ rfl rfl, start_pair _ rfl rfl, hi, hi]
    have w0 : (⟨[0, 1], [], [0, 1], 0, wf⟩ : ScatterDims (shape2 R C) (shape1 2) (shape2 R' C')).window k 0 = (k 0).val := rfl
    have w1 : (⟨[0, 1], [], [0, 1], 0, wf⟩ : ScatterDims (shape2 R C) (shape1 2) (shape2 R' C')).window k 1 = (k 1).val := rfl
    rw [w0, w1]
    omega
  refine scatter_set_hit _ _ _ _ _ _ (fun k hk => ?_) (ix2 r' c') ((hl _).2 ⟨hr.symm, hc.symm⟩)
  obtain ⟨h0, h1⟩ := (hl k).1 hk
  rw [eq_ix2 k]
  exact congrArg₂ (fun a b => upd (ix2 a b)) (Fin.ext (h0.trans hr)) (Fin.ext (h1.trans hc))

/-- Rows written from the first row of a matrix as wide: inside them, the written element; below them, the matrix's own. -/
theorem top_rows {α : Type} {R C R' w : ℕ} (wf : ScatterDims.WF (shape2 R C) (shape1 1) (shape2 R' C) [0, 1] [] [0] 0)
    (x : (shape2 R C).Idx → α) (idx : IVec (shape1 1) w) (hi : ∀ q, (idx q).toInt = 0) (upd : (shape2 R' C).Idx → α)
    (r : Fin R) (c : Fin C) :
    Host.scatter (⟨[0, 1], [], [0], 0, wf⟩ : ScatterDims (shape2 R C) (shape1 1) (shape2 R' C)) (fun _ b => b) x idx upd (ix2 r c)
      = if h : r.val < R' then upd (ix2 ⟨r.val, h⟩ c) else x (ix2 r c) := by
  have hl : ∀ k : (shape2 R' C).Idx, (⟨[0, 1], [], [0], 0, wf⟩ : ScatterDims (shape2 R C) (shape1 1) (shape2 R' C)).resultIdx? k idx
      = some (ix2 r c) ↔ (k 0).val = r.val ∧ (k 1).val = c.val := fun k => by
    rw [resultIdx?_ix2]
    have s0 : (⟨[0, 1], [], [0], 0, wf⟩ : ScatterDims (shape2 R C) (shape1 1) (shape2 R' C)).start k idx 0 = 0 := by
      unfold ScatterDims.start
      rw [dif_pos (List.mem_singleton.2 rfl), hi]
    have s1 : (⟨[0, 1], [], [0], 0, wf⟩ : ScatterDims (shape2 R C) (shape1 1) (shape2 R' C)).start k idx 1 = 0 := rfl
    have w0 : (⟨[0, 1], [], [0], 0, wf⟩ : ScatterDims (shape2 R C) (shape1 1) (shape2 R' C)).window k 0 = (k 0).val := rfl
    have w1 : (⟨[0, 1], [], [0], 0, wf⟩ : ScatterDims (shape2 R C) (shape1 1) (shape2 R' C)).window k 1 = (k 1).val := rfl
    rw [s0, s1, w0, w1]
    omega
  split
  · next h =>
    refine scatter_set_hit _ _ _ _ _ _ (fun k hk => ?_) (ix2 ⟨r.val, h⟩ c) ((hl _).2 ⟨rfl, rfl⟩)
    obtain ⟨h0, h1⟩ := (hl k).1 hk
    rw [eq_ix2 k]
    exact congrArg₂ (fun a b => upd (ix2 a b)) (Fin.ext h0) (Fin.ext h1)
  · next h =>
    refine scatter_set_miss _ _ _ _ _ fun k hk => h ?_
    rw [← ((hl k).1 hk).1]
    exact (k 0).isLt

/-- Columns written from the first column of a matrix as high: inside them, the written element. -/
theorem left_columns {α : Type} {R C C' w : ℕ} (wf : ScatterDims.WF (shape2 R C) (shape1 1) (shape2 R C') [0, 1] [] [1] 0)
    (x : (shape2 R C).Idx → α) (idx : IVec (shape1 1) w) (hi : ∀ q, (idx q).toInt = 0) (upd : (shape2 R C').Idx → α)
    (r : Fin R) (c : Fin C) (c' : Fin C') (hc : c.val = c'.val) :
    Host.scatter (⟨[0, 1], [], [1], 0, wf⟩ : ScatterDims (shape2 R C) (shape1 1) (shape2 R C')) (fun _ b => b) x idx upd (ix2 r c)
      = upd (ix2 r c') := by
  have hl : ∀ k : (shape2 R C').Idx, (⟨[0, 1], [], [1], 0, wf⟩ : ScatterDims (shape2 R C) (shape1 1) (shape2 R C')).resultIdx? k idx
      = some (ix2 r c) ↔ (k 0).val = r.val ∧ (k 1).val = c.val := fun k => by
    rw [resultIdx?_ix2]
    have s0 : (⟨[0, 1], [], [1], 0, wf⟩ : ScatterDims (shape2 R C) (shape1 1) (shape2 R C')).start k idx 0 = 0 := rfl
    have s1 : (⟨[0, 1], [], [1], 0, wf⟩ : ScatterDims (shape2 R C) (shape1 1) (shape2 R C')).start k idx 1 = 0 := by
      unfold ScatterDims.start
      rw [dif_pos (List.mem_singleton.2 rfl), hi]
    have w0 : (⟨[0, 1], [], [1], 0, wf⟩ : ScatterDims (shape2 R C) (shape1 1) (shape2 R C')).window k 0 = (k 0).val := rfl
    have w1 : (⟨[0, 1], [], [1], 0, wf⟩ : ScatterDims (shape2 R C) (shape1 1) (shape2 R C')).window k 1 = (k 1).val := rfl
    rw [s0, s1, w0, w1]
    omega
  refine scatter_set_hit _ _ _ _ _ _ (fun k hk => ?_) (ix2 r c') ((hl _).2 ⟨rfl, hc.symm⟩)
  obtain ⟨h0, h1⟩ := (hl k).1 hk
  rw [eq_ix2 k]
  exact congrArg₂ (fun a b => upd (ix2 a b)) (Fin.ext h0) (Fin.ext (h1.trans hc))

/-- A vector written at the origin of a one-row matrix: inside it, the written element. -/
theorem row_start {α : Type} {C C' w : ℕ} (wf : ScatterDims.WF (shape2 1 C) (shape1 2) (shape1 C') [0] [0] [0, 1] 0)
    (x : (shape2 1 C).Idx → α) (idx : IVec (shape1 2) w) (hi : ∀ q, (idx q).toInt = 0) (upd : (shape1 C').Idx → α)
    (c : Fin C) (c' : Fin C') (hc : c.val = c'.val) :
    Host.scatter (⟨[0], [0], [0, 1], 0, wf⟩ : ScatterDims (shape2 1 C) (shape1 2) (shape1 C')) (fun _ b => b) x idx upd (ix2 0 c)
      = upd (ix1 c') := by
  have hl : ∀ k : (shape1 C').Idx, (⟨[0], [0], [0, 1], 0, wf⟩ : ScatterDims (shape2 1 C) (shape1 2) (shape1 C')).resultIdx? k idx
      = some (ix2 0 c) ↔ (k 0).val = c.val := fun k => by
    rw [resultIdx?_ix2, start_pair _ rfl rfl, start_pair _ rfl rfl, hi, hi]
    have w0 : (⟨[0], [0], [0, 1], 0, wf⟩ : ScatterDims (shape2 1 C) (shape1 2) (shape1 C')).window k 0 = 0 := rfl
    have w1 : (⟨[0], [0], [0, 1], 0, wf⟩ : ScatterDims (shape2 1 C) (shape1 2) (shape1 C')).window k 1 = (k 0).val := rfl
    rw [w0, w1]
    simp
  refine scatter_set_hit _ _ _ _ _ _ (fun k hk => ?_) (ix1 c') ((hl _).2 hc.symm)
  have h0 := (hl k).1 hk
  refine congrArg upd (funext fun a => ?_)
  match a with
  | ⟨0, _⟩ => exact Fin.ext (h0.trans hc)

/-- A vector written at the start of a longer one: inside it, the written element; after it, the longer one's own. -/
theorem vector_start {α : Type} {N N' w : ℕ} (wf : ScatterDims.WF (shape1 N) (shape1 1) (shape1 N') [0] [] [0] 0)
    (x : (shape1 N).Idx → α) (idx : IVec (shape1 1) w) (hi : ∀ q, (idx q).toInt = 0) (upd : (shape1 N').Idx → α) (n : Fin N) :
    Host.scatter (⟨[0], [], [0], 0, wf⟩ : ScatterDims (shape1 N) (shape1 1) (shape1 N')) (fun _ b => b) x idx upd (ix1 n)
      = if h : n.val < N' then upd (ix1 ⟨n.val, h⟩) else x (ix1 n) := by
  have hl : ∀ k : (shape1 N').Idx, (⟨[0], [], [0], 0, wf⟩ : ScatterDims (shape1 N) (shape1 1) (shape1 N')).resultIdx? k idx
      = some (ix1 n) ↔ (k 0).val = n.val := fun k => by
    rw [resultIdx?_ix1]
    have s0 : (⟨[0], [], [0], 0, wf⟩ : ScatterDims (shape1 N) (shape1 1) (shape1 N')).start k idx 0 = 0 := by
      unfold ScatterDims.start
      rw [dif_pos (List.mem_singleton.2 rfl), hi]
    have w0 : (⟨[0], [], [0], 0, wf⟩ : ScatterDims (shape1 N) (shape1 1) (shape1 N')).window k 0 = (k 0).val := rfl
    rw [s0, w0]
    omega
  split
  · next h =>
    refine scatter_set_hit _ _ _ _ _ _ (fun k hk => ?_) (ix1 ⟨n.val, h⟩) ((hl _).2 rfl)
    refine congrArg upd (funext fun a => ?_)
    match a with
    | ⟨0, _⟩ => exact Fin.ext ((hl k).1 hk)
  · next h =>
    refine scatter_set_miss _ _ _ _ _ fun k hk => h ?_
    rw [← (hl k).1 hk]
    exact (k 0).isLt

end Cert.Rows

end
-- ==== Proof.Model.lean ====
/-  The network of Proof/Network.lean on the nineteen argument arrays of the two programs, and one gather-and-add of the host as
    a gathered row.  -/
module

public import proofs.«01_k».proof.Proof.Network
public import proofs.«01_k».proof.Proof.Rows

@[expose] public section

noncomputable section

namespace Cert.Model

open Idealize.ShloMosaic Idealize.ShloMosaic.ValueIdx Idealize.ShloMosaic.Routing Cert.Network

/-- A matrix by its row and column. -/
def mat {R C : ℕ} (x : (shape2 R C).Idx → EReal) (r : Fin R) (c : Fin C) : EReal := x (ix2 r c)

/-- A vector by its position. -/
def vec {C : ℕ} (x : (shape1 C).Idx → EReal) (c : Fin C) : EReal := x (ix1 c)

/-- The arguments: node features, edges (row 0 the sources, row 1 the destinations), each node's graph, and the weights and
    biases; every source is a node's number. -/
structure Args where
  x0 : (shape2 50000 7).Idx → EReal
  x1 : (shape2 2 800000).Idx → BitVec 32
  x2 : (shape1 50000).Idx → BitVec 32
  x3 : (shape2 7 512).Idx → EReal
  x4 : (shape1 512).Idx → EReal
  x5 : (shape2 512 512).Idx → EReal
  x6 : (shape1 512).Idx → EReal
  x7 : (shape2 512 512).Idx → EReal
  x8 : (shape1 512).Idx → EReal
  x9 : (shape2 512 512).Idx → EReal
  x10 : (shape1 512).Idx → EReal
  x11 : (shape2 512 512).Idx → EReal
  x12 : (shape1 512).Idx → EReal
  x13 : (shape2 512 512).Idx → EReal
  x14 : (shape1 512).Idx → EReal
  x15 : (shape2 512 256).Idx → EReal
  x16 : (shape1 256).Idx → EReal
  x17 : (shape2 256 12).Idx → EReal
  x18 : (shape1 12).Idx → EReal
  sources : ∀ e : Fin 800000, (x1 (ix2 0 e)).toNat < 50000

variable (A : Args)

/-- The node an edge comes from. -/
def src (e : Fin 800000) : Fin 50000 := ⟨(A.x1 (ix2 0 e)).toNat, A.sources e⟩

/-- The word of an edge's destination, read signed; one that is no node's number is dropped. -/
def dst (e : Fin 800000) : ℤ := (A.x1 (ix2 1 e)).toInt

/-- The word of a node's graph, read signed. -/
def graph (r : Fin 50000) : ℤ := (A.x2 (ix1 r)).toInt

/-- The nodes' rows after the first layer. -/
def h1 : Fin 50000 → Fin 512 → EReal := layer (src A) (dst A) (mat A.x3) (vec A.x4) (mat A.x5) (vec A.x6) (mat A.x0)

/-- The nodes' rows after the second layer. -/
def h2 : Fin 50000 → Fin 512 → EReal := layer (src A) (dst A) (mat A.x7) (vec A.x8) (mat A.x9) (vec A.x10) (h1 A)

/-- The nodes' rows after the third layer. -/
def h3 : Fin 50000 → Fin 512 → EReal := layer (src A) (dst A) (mat A.x11) (vec A.x12) (mat A.x13) (vec A.x14) (h2 A)

/-- The result: each graph's mean row through the closing maps. -/
def out (g : Fin 128) (j : Fin 12) : EReal :=
  head (graphSum (graph A) (h3 A) g.val) (graphCount (graph A) g.val) (mat A.x15) (vec A.x16) (mat A.x17) (vec A.x18) j

/-- A word below 50000 is the word of its own value. -/
theorem src_word (e : Fin 800000) : A.x1 (ix2 0 e) = BitVec.ofNat 32 (src A e).val := by
  simp [src]

/-- An array plus its rows gathered and added at the destinations is the array of gathered rows. -/
theorem gathered_read {N C E : ℕ} (dg : GatherDims (shape2 N C) (shape2 E 1) (shape2 E C)) (hoff : dg.offsetDims = [1])
    (hcoll : dg.collapsedSliceDims = [0]) (hob : dg.operandBatchingDims = []) (hsim : dg.startIndexMap = [0])
    (hivd : dg.indexVectorDim = 1) (wf : ScatterDims.WF (shape2 N C) (shape2 E 1) (shape2 E C) [1] [0] [0] 1)
    (h z : FVec Ideal (shape2 N C) .f32) (hz : ∀ i, (z i : EReal) = 0) (si di : IVec (shape2 E 1) 32) (s : Fin E → Fin N) (d : Fin E → ℤ)
    (hs : ∀ e, si (ix2 e 0) = BitVec.ofNat 32 (s e).val) (hd : ∀ e, (di (ix2 e 0)).toInt = d e) (hN : N < 2 ^ 31)
    (f : Fin N → Fin C → EReal) (hf : ∀ r k, h (ix2 r k) = f r k) (r : Fin N) (k : Fin C) :
    (h (ix2 r k) + Host.scatterAdd (⟨[1], [0], [0], 1, wf⟩ : ScatterDims (shape2 N C) (shape2 E 1) (shape2 E C)) z di
        (Host.gather dg h si) (ix2 r k) : EReal) = gathered s d f r k := by
  rw [Rows.rows_added, hz, zero_add, hf]
  unfold gathered
  refine congrArg (f r k + ·) (Finset.sum_congr rfl fun e _ => ?_)
  rw [hd, gather_row dg hoff hcoll hob hsim hivd h si e k (s e) (hs e) hN, hf]

end Cert.Model

end
-- ==== Proof.IdealHostValue.lean ====
/-  What the kernel's host operations hand its three calls, at an element: the padded arrays, the edges' columns and the gathered
    rows.  -/
module

public import proofs.«01_k».proof.Proof.Model
public import proofs.«01_k».proof.Proof.IdealRun
public import Idealize.ShloMosaic.Lib.StableHlo.RunRead
public import Idealize.ShloMosaic.Lib.IdealHost

@[expose] public section

set_option maxRecDepth 16384

noncomputable section

namespace Cert.KernelIdeal.Meaning

open Cert.KernelIdeal.Gen Cert.KernelIdeal.Run
open Idealize.ShloMosaic Idealize.ShloMosaic.TcCoe Idealize.ShloMosaic.ValueIdx Idealize.ShloMosaic.Routing Cert.Network Cert.Model

/-- An edge list's row of sources, as a vector. -/
def srcRow (x : IVec S2x800000 32) : IVec S800000 32 :=
  shapeCast S800000 (extractStridedSlice S1x800000 ![0, 0] x slices_S2x800000_S1x800000_0_0) shapeCasts_S1x800000_S800000

/-- An edge list's row of destinations, as a vector. -/
def dstRow (x : IVec S2x800000 32) : IVec S800000 32 :=
  shapeCast S800000 (extractStridedSlice S1x800000 ![1, 0] x slices_S2x800000_S1x800000_1_0) shapeCasts_S1x800000_S800000

/-- A vector of row numbers as the gathers take it: counted from the end where negative, one to a row. -/
def wrapped (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50176#32))) s)

/-- Two words of zero. -/
def zeroPair : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

/-- One word of zero. -/
def zeroOne : IVec S1 32 := broadcastInDim S1 ![] bcast_S_S1 (constantI S_ 32 0#32)

/-- The node features written into the larger array of zeros. -/
def padX (x : FVec Ideal S50000x7 .f32) : FVec Ideal S50176x16 .f32 :=
  Host.scatter scatter_S50176x16_S2_S50000x7_01_n_01_0 (fun _ b => b)
    (broadcastInDim S50176x16 ![] bcast_S_S50176x16 (constant S_ .f32 0x00000000#32)) zeroPair x

/-- The sum an element gets in the first call's operand: a row and the rows gathered for it. -/
def spread16 (h : FVec Ideal S50176x16 .f32) (s d : IVec S800000 32) : FVec Ideal S50176x16 .f32 :=
  addf h (Host.scatterAdd scatter_S50176x16_S800000x1_S800000x16_1_0_0_1
    (broadcastInDim S50176x16 ![] bcast_S_S50176x16 (constant S_ .f32 0x00000000#32))
    (broadcastInDim S800000x1 ![0] bcast_S800000_S800000x1_0 d)
    (Host.gather gather_S50176x16_S800000x1_S800000x16_1_0_n_n_0_1_116 h (wrapped s)))

/-- The same for the other calls' wider rows. -/
def spread512 (h : FVec Ideal S50176x512 .f32) (s d : IVec S800000 32) : FVec Ideal S50176x512 .f32 :=
  addf h (Host.scatterAdd scatter_S50176x512_S800000x1_S800000x512_1_0_0_1
    (broadcastInDim S50176x512 ![] bcast_S_S50176x512 (constant S_ .f32 0x00000000#32))
    (broadcastInDim S800000x1 ![0] bcast_S800000_S800000x1_0 d)
    (Host.gather gather_S50176x512_S800000x1_S800000x512_1_0_n_n_0_1_1512 h (wrapped s)))

section Entries

/-- An entry of the sources' row. -/
theorem srcRow_apply (x : IVec S2x800000 32) (e : Fin 800000) : srcRow x (ix1 e) = x (ix2 0 e) := by
  unfold srcRow
  refine (cast21 _ shapeCasts_S1x800000_S800000 0 e e (by simp)).trans ?_
  unfold extractStridedSlice
  refine congrArg x ((eq_ix2 _).trans (congrArg₂ ix2 rfl (Fin.ext ?_)))
  exact Nat.zero_add _

/-- An entry of the destinations' row. -/
theorem dstRow_apply (x : IVec S2x800000 32) (e : Fin 800000) : dstRow x (ix1 e) = x (ix2 1 e) := by
  unfold dstRow
  refine (cast21 _ shapeCasts_S1x800000_S800000 0 e e (by simp)).trans ?_
  unfold extractStridedSlice
  refine congrArg x ((eq_ix2 _).trans (congrArg₂ ix2 rfl (Fin.ext ?_)))
  exact Nat.zero_add _

/-- A row number that is not negative is kept. -/
theorem wrapped_apply (s : IVec S800000 32) (e : Fin 800000) (h : (s (ix1 e)).toNat < 2 ^ 31) : wrapped s (ix2 e 0) = s (ix1 e) := by
  unfold wrapped
  rw [bcCol]
  exact wrap_of_lt (s (ix1 e)) _ h

/-- Every one of the two words is zero. -/
theorem zeroPair_apply (q : S2.Idx) : (zeroPair q).toInt = 0 := by
  have h : zeroPair q = 0#32 := by
    unfold zeroPair concatenate
    have H : ∀ p ∈ [(⟨S1, broadcastInDim S1 ![] bcast_S_S1 (constantI S_ 32 0#32)⟩ : (s : Shape) × (s.Idx → BitVec 32)),
        ⟨S1, broadcastInDim S1 ![] bcast_S_S1 (constantI S_ 32 0#32)⟩], ∀ i, p.2 i = 0#32 := by
      intro p hp i
      simp only [List.mem_cons, List.not_mem_nil, or_false, or_self] at hp
      subst hp
      rfl
    exact H _ (List.getElem_mem _) _
  rw [h]; rfl

/-- The word is zero. -/
theorem zeroOne_apply (q : S1.Idx) : (zeroOne q).toInt = 0 := rfl

end Entries

variable (A : Args)

/-- The gathers' column of row numbers holds the sources' numbers. -/
theorem sources (e : Fin 800000) : wrapped (srcRow A.x1) (ix2 e 0)
    = BitVec.ofNat 32 (Fin.castLE (by norm_num : 50000 ≤ 50176) (src A e)).val := by
  rw [wrapped_apply _ _ (by rw [srcRow_apply]; exact lt_trans (A.sources e) (by norm_num)), srcRow_apply, src_word]
  rfl

/-- The scatters' column of row numbers holds the destinations' words. -/
theorem dests (e : Fin 800000) :
    ((broadcastInDim S800000x1 ![0] bcast_S800000_S800000x1_0 (dstRow A.x1) : IVec S800000x1 32) (ix2 e 0)).toInt = dst A e := by
  rw [bcCol, dstRow_apply]
  rfl

/-- A wide array whose first rows are the nodes': its gathered rows, on the nodes. -/
theorem spread512_apply (h : FVec Ideal S50176x512 .f32) (f : Fin 50000 → Fin 512 → EReal)
    (hf : ∀ (r : Fin 50000) k, (h (ix2 (Fin.castLE (by norm_num) r) k) : EReal) = f r k) (r : Fin 50000) (k : Fin 512) :
    (spread512 h (srcRow A.x1) (dstRow A.x1) (ix2 (Fin.castLE (by norm_num) r) k) : EReal) = gathered (src A) (dst A) f r k := by
  refine (gathered_read gather_S50176x512_S800000x1_S800000x512_1_0_n_n_0_1_1512 rfl rfl rfl rfl rfl
    scatter_S50176x512_S800000x1_S800000x512_1_0_0_1.wf h _ (fun i => ?_) _ _
    (fun e => Fin.castLE (by norm_num) (src A e)) (dst A) (sources A) (dests A) (by norm_num) (mat h) (fun _ _ => rfl) _ k).trans ?_
  · exact (bc0 _ _ i).trans Ideal.ofBits_zero_f32
  · exact gathered_restrict (by norm_num) (src A) _ (dst A) f (mat h) (fun _ => rfl) hf r k

/-- The padded features on the nodes and the first seven columns are the features. -/
theorem padX_apply (r : Fin 50000) (k : Fin 7) :
    (padX A.x0 (ix2 (Fin.castLE (by norm_num) r) (Fin.castLE (by norm_num) k)) : EReal) = A.x0 (ix2 r k) :=
  Rows.block_inside scatter_S50176x16_S2_S50000x7_01_n_01_0.wf _ _ zeroPair_apply A.x0 _ _ r k rfl rfl

/-- The first call's operand on the nodes and the first seven columns: the features' gathered rows. -/
theorem spread16_apply (r : Fin 50000) (k : Fin 7) :
    (spread16 (padX A.x0) (srcRow A.x1) (dstRow A.x1) (ix2 (Fin.castLE (by norm_num) r) (Fin.castLE (by norm_num) k)) : EReal)
      = gathered (src A) (dst A) (mat A.x0) r k := by
  refine (gathered_read gather_S50176x16_S800000x1_S800000x16_1_0_n_n_0_1_116 rfl rfl rfl rfl rfl
    scatter_S50176x16_S800000x1_S800000x16_1_0_0_1.wf (padX A.x0) _ (fun i => ?_) _ _
    (fun e => Fin.castLE (by norm_num) (src A e)) (dst A) (sources A) (dests A) (by norm_num) (mat (padX A.x0)) (fun _ _ => rfl) _ _).trans ?_
  · exact (bc0 _ _ i).trans Ideal.ofBits_zero_f32
  · unfold gathered
    refine congrArg₂ (· + ·) (padX_apply A r k) (Finset.sum_congr rfl fun e _ => if_congr Iff.rfl (padX_apply A _ k) rfl)

end Cert.KernelIdeal.Meaning

end
-- ==== Proof.IdealReads.lean ====
/-  What the buffers hold when each of the kernel's three calls is entered, as the host operations' terms of the arguments and of
    what the calls before left.  -/
module

public import proofs.«01_k».proof.Proof.IdealHostValue

@[expose] public section

set_option maxRecDepth 16384

noncomputable section

namespace Cert.KernelIdeal.Meaning

open Cert.KernelIdeal.Gen Cert.KernelIdeal.Run
open Idealize.ShloMosaic Idealize.ShloMosaic.TcCoe Idealize.ShloMosaic.ValueIdx Idealize.ShloMosaic.Routing Cert.Network Cert.Model

variable (m : (ℓ : Loc nD τ sig) → Buf (Elt Ideal) ℓ) (c : Dev nD)

/-- The arguments as the network takes them, given that every source is a node's number. -/
def args (hs : ∀ e : Fin 800000, ((m ((c.tc : Thread nD τ).loc main_arg1) : IVec S2x800000 32) (ix2 0 e)).toNat < 50000) : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  sources := hs

/-- A vector of 512 as a one-row matrix. -/
def row512 (x : FVec Ideal S512 .f32) : FVec Ideal S1x512 .f32 := broadcastInDim S1x512 ![1] bcast_S512_S1x512_1 x

/-- Its entries. -/
theorem row512_apply (x : FVec Ideal S512 .f32) (j : Fin 512) : row512 x (ix2 0 j) = x (ix1 j) :=
  congrArg x (eq_ix1 _)

/-- A vector of 256 as a one-row matrix. -/
def row256 (x : FVec Ideal S256 .f32) : FVec Ideal S1x256 .f32 := broadcastInDim S1x256 ![1] bcast_S256_S1x256_1 x

/-- Its entries. -/
theorem row256_apply (x : FVec Ideal S256 .f32) (j : Fin 256) : row256 x (ix2 0 j) = x (ix1 j) :=
  congrArg x (eq_ix1 _)

/-- The first weights with rows of zeros below. -/
def padW (x : FVec Ideal S7x512 .f32) : FVec Ideal S16x512 .f32 :=
  Host.scatter scatter_S16x512_S1_S7x512_01_n_0_0 (fun _ b => b)
    (broadcastInDim S16x512 ![] bcast_S_S16x512 (constant S_ .f32 0x00000000#32)) zeroOne x

/-- Its first seven rows. -/
theorem padW_inside (x : FVec Ideal S7x512 .f32) (k : Fin 7) (j : Fin 512) :
    padW x (ix2 (Fin.castLE (by norm_num) k) j) = x (ix2 k j) :=
  (Rows.top_rows scatter_S16x512_S1_S7x512_01_n_0_0.wf _ _ zeroOne_apply x _ j).trans (dif_pos k.isLt)

/-- Its other rows. -/
theorem padW_below (x : FVec Ideal S7x512 .f32) (k : Fin 16) (j : Fin 512) (hk : 7 ≤ k.val) : (padW x (ix2 k j) : EReal) = 0 :=
  ((Rows.top_rows scatter_S16x512_S1_S7x512_01_n_0_0.wf _ _ zeroOne_apply x k j).trans (dif_neg (Nat.not_lt.2 hk))).trans
    ((bc0 _ _ _).trans Ideal.ofBits_zero_f32)

/-- The last weights with columns of zeros to the right. -/
def padH (x : FVec Ideal S256x12 .f32) : FVec Ideal S256x128 .f32 :=
  Host.scatter scatter_S256x128_S1_S256x12_01_n_1_0 (fun _ b => b)
    (broadcastInDim S256x128 ![] bcast_S_S256x128 (constant S_ .f32 0x00000000#32)) zeroOne x

/-- Its first twelve columns. -/
theorem padH_inside (x : FVec Ideal S256x12 .f32) (l : Fin 256) (j : Fin 12) :
    padH x (ix2 l (Fin.castLE (by norm_num) j)) = x (ix2 l j) :=
  Rows.left_columns scatter_S256x128_S1_S256x12_01_n_1_0.wf _ _ zeroOne_apply x l _ j rfl

/-- The last bias with zeros to the right, as a one-row matrix. -/
def padB (x : FVec Ideal S12 .f32) : FVec Ideal S1x128 .f32 :=
  Host.scatter scatter_S1x128_S2_S12_0_0_01_0 (fun _ b => b)
    (broadcastInDim S1x128 ![] bcast_S_S1x128 (constant S_ .f32 0x00000000#32)) zeroPair x

/-- Its first twelve entries. -/
theorem padB_inside (x : FVec Ideal S12 .f32) (j : Fin 12) : padB x (ix2 0 (Fin.castLE (by norm_num) j)) = x (ix1 j) :=
  Rows.row_start scatter_S1x128_S2_S12_0_0_01_0.wf _ _ zeroPair_apply x _ j rfl

/-- The nodes' graphs followed by words of 128, in blocks of 512. -/
def padG (x : IVec S50000 32) : IVec S98x1x512 32 :=
  shapeCast S98x1x512 (Host.scatter scatter_S50176_S1_S50000_0_n_0_0 (fun _ b => b)
    (broadcastInDim S50176 ![] bcast_S_S50176 (constantI S_ 32 128#32)) zeroOne x) shapeCasts_S50176_S98x1x512

/-- Entry `l` of block `t` is the word of row `512 t + l` where that is a node, 128 elsewhere. -/
theorem padG_apply (x : IVec S50000 32) (t : Fin 98) (l : Fin 512) :
    padG x (ix3 t 0 l) = if h : 512 * t.val + l.val < 50000 then x (ix1 ⟨512 * t.val + l.val, h⟩) else 128#32 := by
  unfold padG
  refine (cast13 _ shapeCasts_S50176_S98x1x512 t 0 l ⟨512 * t.val + l.val, by omega⟩ (by simp; omega)).trans ?_
  exact (Rows.vector_start scatter_S50176_S1_S50000_0_n_0_0.wf _ _ zeroOne_apply x _)

section First

theorem v1_read : V1 m c main_v1 = srcRow (m ((c.tc : Thread nD τ).loc main_arg1)) := by
  show StableHlo.after hostOps0 (V0 m c) main_v1 = _
  after_reads_simp
  rfl
theorem v3_read : V1 m c main_v3 = dstRow (m ((c.tc : Thread nD τ).loc main_arg1)) := by
  show StableHlo.after hostOps0 (V0 m c) main_v3 = _
  after_reads_simp
  rfl
theorem v11_read : V1 m c main_v11 = padW (m ((c.tc : Thread nD τ).loc main_arg3)) := by
  show StableHlo.after hostOps0 (V0 m c) main_v11 = _
  after_reads_simp
  rfl
theorem v12_read : V1 m c main_v12 = row512 (m ((c.tc : Thread nD τ).loc main_arg4)) := by
  show StableHlo.after hostOps0 (V0 m c) main_v12 = _
  after_reads_simp
  rfl
theorem v13_read : V1 m c main_v13 = row512 (m ((c.tc : Thread nD τ).loc main_arg6)) := by
  show StableHlo.after hostOps0 (V0 m c) main_v13 = _
  after_reads_simp
  rfl
theorem v14_read : V1 m c main_v14 = row512 (m ((c.tc : Thread nD τ).loc main_arg8)) := by
  show StableHlo.after hostOps0 (V0 m c) main_v14 = _
  after_reads_simp
  rfl
theorem v15_read : V1 m c main_v15 = row512 (m ((c.tc : Thread nD τ).loc main_arg10)) := by
  show StableHlo.after hostOps0 (V0 m c) main_v15 = _
  after_reads_simp
  rfl
theorem v16_read : V1 m c main_v16 = row512 (m ((c.tc : Thread nD τ).loc main_arg12)) := by
  show StableHlo.after hostOps0 (V0 m c) main_v16 = _
  after_reads_simp
  rfl
theorem v17_read : V1 m c main_v17 = row512 (m ((c.tc : Thread nD τ).loc main_arg14)) := by
  show StableHlo.after hostOps0 (V0 m c) main_v17 = _
  after_reads_simp
  rfl
theorem v18_read : V1 m c main_v18 = row256 (m ((c.tc : Thread nD τ).loc main_arg16)) := by
  show StableHlo.after hostOps0 (V0 m c) main_v18 = _
  after_reads_simp
  rfl
theorem v21_read : V1 m c main_v21 = padH (m ((c.tc : Thread nD τ).loc main_arg17)) := by
  show StableHlo.after hostOps0 (V0 m c) main_v21 = _
  after_reads_simp
  rfl
theorem v26_read : V1 m c main_v26 = padB (m ((c.tc : Thread nD τ).loc main_arg18)) := by
  show StableHlo.after hostOps0 (V0 m c) main_v26 = _
  after_results_simp
  rfl
theorem v30_read : V1 m c main_v30 = padG (m ((c.tc : Thread nD τ).loc main_arg2)) := by
  show StableHlo.after hostOps0 (V0 m c) main_v30 = _
  after_reads_simp
  rfl
theorem v41_read : V1 m c main_v41 = spread16 (padX (m ((c.tc : Thread nD τ).loc main_arg0)))
    (srcRow (m ((c.tc : Thread nD τ).loc main_arg1))) (dstRow (m ((c.tc : Thread nD τ).loc main_arg1))) := by
  show StableHlo.after hostOps0 (V0 m c) main_v41 = _
  after_results_simp
  rfl

end First

/-- A buffer no host stretch after the first and no call writes holds at the second call what it held at the first. -/
theorem keep3 (r : Ref sig .tc) (h1 : r ∉ hostOps1_W) (h2 : r ∉ ([main_v42] : List (Ref sig .tc))) :
    V3 m (outs m) c r = V1 m c r :=
  (V3_of m (outs m) c r h1).trans (V2_of m (outs m) c r h2)

/-- Likewise at the third. -/
theorem keep5 (r : Ref sig .tc) (h1 : r ∉ hostOps1_W) (h2 : r ∉ ([main_v42] : List (Ref sig .tc))) (h3 : r ∉ hostOps2_W)
    (h4 : r ∉ ([main_v54] : List (Ref sig .tc))) : V5 m (outs m) c r = V1 m c r :=
  (V5_of m (outs m) c r h3).trans ((V4_of m (outs m) c r h4).trans (keep3 m c r h1 h2))

/-- The second host stretch's last result, from any contents. -/
theorem ops1_read (V : Valuation τ sig (Elt Ideal)) :
    StableHlo.after hostOps1 V main_v53 = spread512 (V main_v42) (V main_v1) (V main_v3) := by
  after_results_simp
  rfl

/-- The third host stretch's last result, from any contents. -/
theorem ops2_read (V : Valuation τ sig (Elt Ideal)) :
    StableHlo.after hostOps2 V main_v65 = spread512 (V main_v54) (V main_v1) (V main_v3) := by
  after_results_simp
  rfl

/-- The last host stretch's result, from any contents. -/
theorem ops3_read (V : Valuation τ sig (Elt Ideal)) : StableHlo.after hostOps3 V main_v67
    = (extractStridedSlice S128x12 ![0, 0] (V main_v66 : FVec Ideal S128x128 .f32) slices_S128x128_S128x12_0_0 : FVec Ideal S128x12 .f32) := by
  after_results_simp

/-- The second call's operand. -/
theorem v53_read : V3 m (outs m) c main_v53 = spread512 (V2 m (outs m) c main_v42)
    (srcRow (m ((c.tc : Thread nD τ).loc main_arg1))) (dstRow (m ((c.tc : Thread nD τ).loc main_arg1))) := by
  refine (ops1_read (V2 m (outs m) c)).trans (congrArg₂ (spread512 _) ?_ ?_)
  · exact (V2_of m (outs m) c main_v1 (by decide)).trans (v1_read m c)
  · exact (V2_of m (outs m) c main_v3 (by decide)).trans (v3_read m c)

/-- The third call's operand. -/
theorem v65_read : V5 m (outs m) c main_v65 = spread512 (V4 m (outs m) c main_v54)
    (srcRow (m ((c.tc : Thread nD τ).loc main_arg1))) (dstRow (m ((c.tc : Thread nD τ).loc main_arg1))) := by
  refine (ops2_read (V4 m (outs m) c)).trans (congrArg₂ (spread512 _) ?_ ?_)
  · exact (V4_of m (outs m) c main_v1 (by decide)).trans ((keep3 m c main_v1 (by decide) (by decide)).trans (v1_read m c))
  · exact (V4_of m (outs m) c main_v3 (by decide)).trans ((keep3 m c main_v3 (by decide) (by decide)).trans (v3_read m c))

end Cert.KernelIdeal.Meaning

end
-- ==== Proof.IdealLayers.lean ====
/-  What the kernel's first two calls leave: every row of their operand through the two linear maps.  -/
module

public import proofs.«01_k».proof.Proof.IdealReads
public import Idealize.ShloMosaic.Lib.Pointwise
public import Idealize.ShloMosaic.Lib.Pipeline.ValueKit

@[expose] public section

set_option maxRecDepth 16384

noncomputable section

namespace Cert.KernelIdeal.Meaning

open Cert.KernelIdeal.Gen Cert.KernelIdeal.Run
open Idealize.ShloMosaic Idealize.ShloMosaic.TcCoe Idealize.ShloMosaic.Routing Cert.Network Cert.Model
open Idealize.ShloMosaic.Pipeline (Dat Cfg Window)

/-- A one-row matrix by its column. -/
def row {C : ℕ} (x : (shape2 1 C).Idx → EReal) (k : Fin C) : EReal := x (ValueIdx.ix2 0 k)

/-- What the first call's body computes, at an element. -/
theorem pay0_apply (x0 : Vec Ideal S512x16 .f32) (x1 : Vec Ideal S16x512 .f32) (x2 : Vec Ideal S1x512 .f32) (x3 : Vec Ideal S512x512 .f32)
    (x4 : Vec Ideal S1x512 .f32) (r j : Fin 512) :
    (k0_pay1 x0 x1 x2 x3 x4 (ValueIdx.ix2 r j) : EReal) = twoLin (mat x1) (row x2) (mat x3) (row x4) (fun k => x0 (ValueIdx.ix2 r k)) j := by
  pointwise [k0_pay1]
  rfl

/-- What the second call's body computes, at an element. -/
theorem pay1_apply (x0 : Vec Ideal S512x512 .f32) (x1 : Vec Ideal S512x512 .f32) (x2 : Vec Ideal S1x512 .f32) (x3 : Vec Ideal S512x512 .f32)
    (x4 : Vec Ideal S1x512 .f32) (r j : Fin 512) :
    (k1_pay1 x0 x1 x2 x3 x4 (ValueIdx.ix2 r j) : EReal) = twoLin (mat x1) (row x2) (mat x3) (row x4) (fun k => x0 (ValueIdx.ix2 r k)) j := by
  pointwise [k1_pay1]
  rfl

theorem index0_0 : ∀ t : Fin cfg0.N, win0_0.index t = ![t.val, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![0, 0] := by decide +kernel
theorem index0_4 : ∀ t : Fin cfg0.N, win0_4.index t = ![0, 0] := by decide +kernel
theorem index0_5 : ∀ t : Fin cfg0.N, win0_5.index t = ![t.val, 0] := by decide +kernel

theorem index1_0 : ∀ t : Fin cfg1.N, win1_0.index t = ![t.val, 0] := by decide +kernel
theorem index1_1 : ∀ t : Fin cfg1.N, win1_1.index t = ![0, 0] := by decide +kernel
theorem index1_2 : ∀ t : Fin cfg1.N, win1_2.index t = ![0, 0] := by decide +kernel
theorem index1_3 : ∀ t : Fin cfg1.N, win1_3.index t = ![0, 0] := by decide +kernel
theorem index1_4 : ∀ t : Fin cfg1.N, win1_4.index t = ![0, 0] := by decide +kernel
theorem index1_5 : ∀ t : Fin cfg1.N, win1_5.index t = ![t.val, 0] := by decide +kernel

/-- What the first call's windows hold at point `t`: its operand's rows from `512 t`, and its four other operands whole. -/
theorem block0_0 (W : Dev nD → Valuation τ sig (Elt Ideal)) (c : Dev nD) (t : Fin cfg0.N) (r : Fin 512) (k : Fin 16) (r' : Fin 50176)
    (h : r'.val = 512 * t.val + r.val) :
    blk0 W c 0 t (ValueIdx.ix2 r k) = (W c main_v41 : FVec Ideal S50176x16 .f32) (ValueIdx.ix2 r' k) := by
  blk_ext [blk0, index0_0]
  show t.val * 512 + r.val = r'.val
  omega
theorem block0_1 (W : Dev nD → Valuation τ sig (Elt Ideal)) (c : Dev nD) (t : Fin cfg0.N) : blk0 W c 1 t = W c main_v11 := by
  funext y; blk_ext [blk0, index0_1]
theorem block0_2 (W : Dev nD → Valuation τ sig (Elt Ideal)) (c : Dev nD) (t : Fin cfg0.N) : blk0 W c 2 t = W c main_v12 := by
  funext y; blk_ext [blk0, index0_2]
theorem block0_3 (W : Dev nD → Valuation τ sig (Elt Ideal)) (c : Dev nD) (t : Fin cfg0.N) : blk0 W c 3 t = W c main_arg5 := by
  funext y; blk_ext [blk0, index0_3]
theorem block0_4 (W : Dev nD → Valuation τ sig (Elt Ideal)) (c : Dev nD) (t : Fin cfg0.N) : blk0 W c 4 t = W c main_v13 := by
  funext y; blk_ext [blk0, index0_4]

/-- The first call's result array, at an element. -/
theorem call0 (W : Dev nD → Valuation τ sig (Elt Ideal)) (c : Dev nD) (r : Fin 50176) (j : Fin 512) :
    ((dat0 W c).arrAt 5 cfg0.N : FVec Ideal S50176x512 .f32) (ValueIdx.ix2 r j)
      = twoLin (mat (W c main_v11 : FVec Ideal S16x512 .f32)) (row (W c main_v12 : FVec Ideal S1x512 .f32))
          (mat (W c main_arg5 : FVec Ideal S512x512 .f32)) (row (W c main_v13 : FVec Ideal S1x512 .f32))
          (fun k => (W c main_v41 : FVec Ideal S50176x16 .f32) (ValueIdx.ix2 r k)) j := by
  refine congrFun ((dat0 W c).arrAt_eq_of_covers 5 (fun i : S50176x512.Idx =>
    twoLin (mat (W c main_v11 : FVec Ideal S16x512 .f32)) (row (W c main_v12 : FVec Ideal S1x512 .f32))
      (mat (W c main_arg5 : FVec Ideal S512x512 .f32)) (row (W c main_v13 : FVec Ideal S1x512 .f32))
      (fun k => (W c main_v41 : FVec Ideal S50176x16 .f32) (ValueIdx.ix2 (i 0) k)) (i 1)) (by decide +kernel) fun t hf y => ?_) (ValueIdx.ix2 r j)
  blk_simp
  rw [after0_5]
  unfold out0
  rw [block0_1, block0_2, block0_3, block0_4, ValueIdx.eq_ix2 y]
  refine (pay0_apply _ _ _ _ _ _ _).trans ?_
  refine congrArg₂ (fun z j => twoLin _ _ _ _ z j) (funext fun k => block0_0 W c t (y 0) k _ ?_) (Fin.ext ?_)
  · blk_simp [index0_5]
    show t.val * 512 + (y 0).val = 512 * t.val + (y 0).val
    omega
  · blk_simp [index0_5]

/-- What the second call's windows hold at point `t`: its operand's rows from `512 t`, and its four other operands whole. -/
theorem block1_0 (W : Dev nD → Valuation τ sig (Elt Ideal)) (c : Dev nD) (t : Fin cfg1.N) (r : Fin 512) (k : Fin 512) (r' : Fin 50176)
    (h : r'.val = 512 * t.val + r.val) :
    blk1 W c 0 t (ValueIdx.ix2 r k) = (W c main_v53 : FVec Ideal S50176x512 .f32) (ValueIdx.ix2 r' k) := by
  blk_ext [blk1, index1_0]
  show t.val * 512 + r.val = r'.val
  omega
theorem block1_1 (W : Dev nD → Valuation τ sig (Elt Ideal)) (c : Dev nD) (t : Fin cfg1.N) : blk1 W c 1 t = W c main_arg7 := by
  funext y; blk_ext [blk1, index1_1]
theorem block1_2 (W : Dev nD → Valuation τ sig (Elt Ideal)) (c : Dev nD) (t : Fin cfg1.N) : blk1 W c 2 t = W c main_v14 := by
  funext y; blk_ext [blk1, index1_2]
theorem block1_3 (W : Dev nD → Valuation τ sig (Elt Ideal)) (c : Dev nD) (t : Fin cfg1.N) : blk1 W c 3 t = W c main_arg9 := by
  funext y; blk_ext [blk1, index1_3]
theorem block1_4 (W : Dev nD → Valuation τ sig (Elt Ideal)) (c : Dev nD) (t : Fin cfg1.N) : blk1 W c 4 t = W c main_v15 := by
  funext y; blk_ext [blk1, index1_4]

/-- The second call's result array, at an element. -/
theorem call1 (W : Dev nD → Valuation τ sig (Elt Ideal)) (c : Dev nD) (r : Fin 50176) (j : Fin 512) :
    ((dat1 W c).arrAt 5 cfg1.N : FVec Ideal S50176x512 .f32) (ValueIdx.ix2 r j)
      = twoLin (mat (W c main_arg7 : FVec Ideal S512x512 .f32)) (row (W c main_v14 : FVec Ideal S1x512 .f32))
          (mat (W c main_arg9 : FVec Ideal S512x512 .f32)) (row (W c main_v15 : FVec Ideal S1x512 .f32))
          (fun k => (W c main_v53 : FVec Ideal S50176x512 .f32) (ValueIdx.ix2 r k)) j := by
  refine congrFun ((dat1 W c).arrAt_eq_of_covers 5 (fun i : S50176x512.Idx =>
    twoLin (mat (W c main_arg7 : FVec Ideal S512x512 .f32)) (row (W c main_v14 : FVec Ideal S1x512 .f32))
      (mat (W c main_arg9 : FVec Ideal S512x512 .f32)) (row (W c main_v15 : FVec Ideal S1x512 .f32))
      (fun k => (W c main_v53 : FVec Ideal S50176x512 .f32) (ValueIdx.ix2 (i 0) k)) (i 1)) (by decide +kernel) fun t hf y => ?_) (ValueIdx.ix2 r j)
  blk_simp
  rw [after1_5]
  unfold out1
  rw [block1_1, block1_2, block1_3, block1_4, ValueIdx.eq_ix2 y]
  refine (pay1_apply _ _ _ _ _ _ _).trans ?_
  refine congrArg₂ (fun z j => twoLin _ _ _ _ z j) (funext fun k => block1_0 W c t (y 0) k _ ?_) (Fin.ext ?_)
  · blk_simp [index1_5]
    show t.val * 512 + (y 0).val = 512 * t.val + (y 0).val
    omega
  · blk_simp [index1_5]

variable (m : (ℓ : Loc nD τ sig) → Buf (Elt Ideal) ℓ) (c : Dev nD)
  (hs : ∀ e : Fin 800000, ((m ((c.tc : Thread nD τ).loc main_arg1) : IVec S2x800000 32) (ValueIdx.ix2 0 e)).toNat < 50000)

/-- After the first call the nodes' rows are the first layer's. -/
theorem rows1 (r : Fin 50000) (j : Fin 512) :
    (V2 m (outs m) c main_v42 : FVec Ideal S50176x512 .f32) (ValueIdx.ix2 (Fin.castLE (by norm_num) r) j) = h1 (args m c hs) r j := by
  have e : V2 m (outs m) c main_v42 = (dat0 (V1 m) c).arrAt 5 cfg0.N :=
    (congrFun (V2_eq m c) main_v42).symm.trans (Pipeline.afterRegion_arr (dat0 (V1 m) c) (V1 m c) winFacts0.arr_inj 5)
  rw [e]
  refine (call0 (V1 m) c _ j).trans ?_
  rw [v11_read, v12_read, v13_read, v41_read, V1_of m c main_arg5 (by decide)]
  unfold h1 layer twoLin
  have er : ∀ x : FVec Ideal S512 .f32, row (row512 x) = vec x := fun x => funext fun k => row512_apply x k
  rw [er, er]
  refine congrArg (fun z => linRelu _ _ z j) (funext fun k => ?_)
  have key := linRelu_pad (K := 7) (K' := 16) (by norm_num) (mat (args m c hs).x3) (mat (padW (args m c hs).x3)) (vec (args m c hs).x4)
    (gathered (src (args m c hs)) (dst (args m c hs)) (mat (args m c hs).x0) r)
    (fun k' : Fin 16 => (spread16 (padX (args m c hs).x0) (srcRow (args m c hs).x1) (dstRow (args m c hs).x1)
      (ValueIdx.ix2 (Fin.castLE (by norm_num) r) k') : EReal))
    (fun k j => padW_inside (args m c hs).x3 k j) (fun k j hk => padW_below (args m c hs).x3 k j hk) (fun k' => spread16_apply (args m c hs) r k') k
  exact key

/-- After the second call they are the second layer's. -/
theorem rows2 (r : Fin 50000) (j : Fin 512) :
    (V4 m (outs m) c main_v54 : FVec Ideal S50176x512 .f32) (ValueIdx.ix2 (Fin.castLE (by norm_num) r) j) = h2 (args m c hs) r j := by
  have e : V4 m (outs m) c main_v54 = (dat1 (V3 m (outs m)) c).arrAt 5 cfg1.N :=
    (congrFun (V4_eq m c) main_v54).symm.trans (Pipeline.afterRegion_arr (dat1 (V3 m (outs m)) c) (V3 m (outs m) c) winFacts1.arr_inj 5)
  rw [e]
  refine (call1 (V3 m (outs m)) c _ j).trans ?_
  rw [v53_read, keep3 m c main_v14 (by decide) (by decide), keep3 m c main_v15 (by decide) (by decide),
    keep3 m c main_arg7 (by decide) (by decide), keep3 m c main_arg9 (by decide) (by decide), v14_read, v15_read,
    V1_of m c main_arg7 (by decide), V1_of m c main_arg9 (by decide)]
  unfold h2 layer
  have er : ∀ x : FVec Ideal S512 .f32, row (row512 x) = vec x := fun x => funext fun k => row512_apply x k
  rw [er, er]
  refine congrArg (fun z => twoLin _ _ _ _ z j) (funext fun k => ?_)
  exact spread512_apply (args m c hs) _ (h1 (args m c hs)) (rows1 m c hs) r k

end Cert.KernelIdeal.Meaning

end
-- ==== Proof.IdealPool.lean ====
/-  What the kernel's third call computes at an element: its running sums and counts over the blocks, and the closing maps.  -/
module

public import proofs.«01_k».proof.Proof.IdealLayers

@[expose] public section

set_option maxRecDepth 16384

noncomputable section

namespace Cert.KernelIdeal.Meaning

open Cert.KernelIdeal.Gen Cert.KernelIdeal.Run
open Idealize.ShloMosaic Idealize.ShloMosaic.TcCoe Idealize.ShloMosaic.Routing Cert.Network Cert.Model
open Idealize.ShloMosaic.Pipeline (Dat Cfg Window)

/-- One where two words are equal, zero elsewhere. -/
def oneHot (a b : BitVec 32) : EReal := if a = b then 1 else 0

/-- The bit of an equality, widened and read as a number. -/
theorem oneHot_bit (a b : BitVec 32) :
    (FloatOps.sitofp (F := Ideal) FTy.f32 (BitVec.setWidth 32 (IntOp.cmpi .eq a b)) : EReal) = oneHot a b := by
  show (((BitVec.setWidth 32 (IntOp.cmpi .eq a b)).toInt : ℝ) : EReal) = _
  unfold IntOp.cmpi oneHot
  by_cases h : a = b
  · have e : (a == b) = true := by simpa using h
    simp [e, h]
  · have e : (a == b) = false := by simpa using h
    simp [e, h]

/-- The block's membership matrix, at an element: whether row `l` belongs to graph `g`. -/
theorem member_apply (x1 : Vec Ideal S1x1x512 .i32) (g : Fin 128) (l : Fin 512) :
    (k2_pay6 x1 (ValueIdx.ix2 g l) : EReal) = oneHot (x1 (ValueIdx.ix3 0 0 l)) (BitVec.ofNat 32 g.val) := by
  pointwise [k2_pay6]
  exact oneHot_bit _ _

/-- The sums after a block, at an element. -/
theorem sumStep_apply (x0 : Vec Ideal S512x512 .f32) (x1 : Vec Ideal S1x1x512 .i32) (x2 : Vec Ideal S512x512 .f32)
    (x3 : Vec Ideal S1x512 .f32) (x4 : Vec Ideal S512x512 .f32) (x5 : Vec Ideal S1x512 .f32) (s : Vec Ideal S128x512 .f32)
    (g : Fin 128) (j : Fin 512) :
    (sumStep x0 x1 x2 x3 x4 x5 s (ValueIdx.ix2 g j) : EReal) = s (ValueIdx.ix2 g j)
      + ∑ l : Fin 512, (k2_pay6 x1 (ValueIdx.ix2 g l) : EReal) * twoLin (mat x2) (row x3) (mat x4) (row x5) (fun k => x0 (ValueIdx.ix2 l k)) j := by
  unfold sumStep
  generalize hp : (k2_pay6 x1 : FVec Ideal S128x512 .f32) = p
  pointwise [k2_pay1, k2_pay7, hp]
  rfl

/-- The counts after a block, at an element. -/
theorem cntStep_apply (x1 : Vec Ideal S1x1x512 .i32) (n : Vec Ideal S128x1 .f32) (g : Fin 128) :
    (cntStep x1 n (ValueIdx.ix2 g 0) : EReal) = n (ValueIdx.ix2 g 0) + ∑ l : Fin 512, (k2_pay6 x1 (ValueIdx.ix2 g l) : EReal) := by
  unfold cntStep
  generalize (k2_pay6 x1 : FVec Ideal S128x512 .f32) = p
  pointwise [k2_pay2]
  rfl

/-- The closing maps, at an element. -/
theorem closing_apply (s : Vec Ideal S128x512 .f32) (n : Vec Ideal S128x1 .f32) (w1 : Vec Ideal S512x256 .f32) (b1 : Vec Ideal S1x256 .f32)
    (w2 : Vec Ideal S256x128 .f32) (b2 : Vec Ideal S1x128 .f32) (g : Fin 128) (j : Fin 128) :
    (k2_pay3 s n w1 b1 w2 b2 (ValueIdx.ix2 g j) : EReal)
      = head (fun k => s (ValueIdx.ix2 g k)) (n (ValueIdx.ix2 g 0)) (mat w1) (row b1) (mat w2) (row b2) j := by
  pointwise [k2_pay3]
  rfl

/-- The sums start at zero. -/
theorem sums_start (i : S128x512.Idx) : (k2_pay4 (F := Ideal) i : EReal) = 0 := by
  pointwise [k2_pay4]

/-- The counts start at zero. -/
theorem cnts_start (i : S128x1.Idx) : (k2_pay5 (F := Ideal) i : EReal) = 0 := by
  pointwise [k2_pay5]

end Cert.KernelIdeal.Meaning

end
-- ==== Proof.IdealResult.lean ====
/-  What the kernel returns: the third call's result on its first twelve columns.  -/
module

public import proofs.«01_k».proof.Proof.IdealPool

@[expose] public section

set_option maxRecDepth 16384

noncomputable section

namespace Cert.KernelIdeal.Meaning

open Cert.KernelIdeal.Gen Cert.KernelIdeal.Run
open Idealize.ShloMosaic Idealize.ShloMosaic.TcCoe Idealize.ShloMosaic.Routing Cert.Network Cert.Model
open Idealize.ShloMosaic.Pipeline (Dat Cfg Window)

theorem index2_0 : ∀ t : Fin cfg2.N, win2_0.index t = ![t.val, 0] := by decide +kernel
theorem index2_1 : ∀ t : Fin cfg2.N, win2_1.index t = ![t.val, 0, 0] := by decide +kernel
theorem index2_2 : ∀ t : Fin cfg2.N, win2_2.index t = ![0, 0] := by decide +kernel
theorem index2_3 : ∀ t : Fin cfg2.N, win2_3.index t = ![0, 0] := by decide +kernel
theorem index2_4 : ∀ t : Fin cfg2.N, win2_4.index t = ![0, 0] := by decide +kernel
theorem index2_5 : ∀ t : Fin cfg2.N, win2_5.index t = ![0, 0] := by decide +kernel
theorem index2_6 : ∀ t : Fin cfg2.N, win2_6.index t = ![0, 0] := by decide +kernel
theorem index2_7 : ∀ t : Fin cfg2.N, win2_7.index t = ![0, 0] := by decide +kernel
theorem index2_8 : ∀ t : Fin cfg2.N, win2_8.index t = ![0, 0] := by decide +kernel
theorem index2_9 : ∀ t : Fin cfg2.N, win2_9.index t = ![0, 0] := by decide +kernel
theorem index2_10 : ∀ t : Fin cfg2.N, win2_10.index t = ![0, 0] := by decide +kernel

/-- The third call writes its result back at its last point only. -/
theorem flush2 : ∀ t : Fin cfg2.N, (cfg2.win 10).flush t = true → t.val = 97 := by decide +kernel

section Call

variable (W : Dev nD → Valuation τ sig (Elt Ideal)) (c : Dev nD)

/-- What the third call's windows hold at point `t`: its operand's rows from `512 t`, block `t` of the graphs' words, and its other operands whole. -/
theorem block2_0 (t : Fin cfg2.N) (r : Fin 512) (k : Fin 512) (r' : Fin 50176) (h : r'.val = 512 * t.val + r.val) :
    blk2 W c 0 t (ValueIdx.ix2 r k) = (W c main_v65 : FVec Ideal S50176x512 .f32) (ValueIdx.ix2 r' k) := by
  blk_ext [blk2, index2_0]
  show t.val * 512 + r.val = r'.val
  omega
theorem block2_1 (t : Fin cfg2.N) (l : Fin 512) (t' : Fin 98) (h : t'.val = t.val) :
    blk2 W c 1 t (ValueIdx.ix3 0 0 l) = (W c main_v30 : IVec S98x1x512 32) (ValueIdx.ix3 t' 0 l) := by
  blk_ext [blk2, index2_1]
  exact h.symm
theorem block2_2 (t : Fin cfg2.N) : blk2 W c 2 t = W c main_arg11 := by funext y; blk_ext [blk2, index2_2]
theorem block2_3 (t : Fin cfg2.N) : blk2 W c 3 t = W c main_v16 := by funext y; blk_ext [blk2, index2_3]
theorem block2_4 (t : Fin cfg2.N) : blk2 W c 4 t = W c main_arg13 := by funext y; blk_ext [blk2, index2_4]
theorem block2_5 (t : Fin cfg2.N) : blk2 W c 5 t = W c main_v17 := by funext y; blk_ext [blk2, index2_5]
theorem block2_6 (t : Fin cfg2.N) : blk2 W c 6 t = W c main_arg15 := by funext y; blk_ext [blk2, index2_6]
theorem block2_7 (t : Fin cfg2.N) : blk2 W c 7 t = W c main_v18 := by funext y; blk_ext [blk2, index2_7]
theorem block2_8 (t : Fin cfg2.N) : blk2 W c 8 t = W c main_v21 := by funext y; blk_ext [blk2, index2_8]
theorem block2_9 (t : Fin cfg2.N) : blk2 W c 9 t = W c main_v26 := by funext y; blk_ext [blk2, index2_9]

/-- The third call's result array, at an element. -/
theorem call2 (g j : Fin 128) :
    ((dat2 W c).arrAt 10 cfg2.N : FVec Ideal S128x128 .f32) (ValueIdx.ix2 g j)
      = head (fun k => (sums2 W c 98 (ValueIdx.ix2 g k) : EReal)) (cnts2 W c 98 (ValueIdx.ix2 g 0))
          (mat (W c main_arg15 : FVec Ideal S512x256 .f32)) (row (W c main_v18 : FVec Ideal S1x256 .f32))
          (mat (W c main_v21 : FVec Ideal S256x128 .f32)) (row (W c main_v26 : FVec Ideal S1x128 .f32)) j := by
  refine congrFun ((dat2 W c).arrAt_eq_of_covers 10 (fun i : S128x128.Idx =>
    head (fun k => (sums2 W c 98 (ValueIdx.ix2 (i 0) k) : EReal)) (cnts2 W c 98 (ValueIdx.ix2 (i 0) 0))
          (mat (W c main_arg15 : FVec Ideal S512x256 .f32)) (row (W c main_v18 : FVec Ideal S1x256 .f32))
          (mat (W c main_v21 : FVec Ideal S256x128 .f32)) (row (W c main_v26 : FVec Ideal S1x128 .f32)) (i 1)) (by decide +kernel) fun t hf y => ?_) (ValueIdx.ix2 g j)
  have ht := flush2 t hf
  blk_simp
  rw [after2_10]
  unfold out2
  rw [block2_6, block2_7, block2_8, block2_9, ValueIdx.eq_ix2 y, ht]
  refine (closing_apply _ _ _ _ _ _ _ _).trans ?_
  refine congrArg₂ (fun (g j : Fin 128) => head (fun k => (sums2 W c 98 (ValueIdx.ix2 g k) : EReal)) (cnts2 W c 98 (ValueIdx.ix2 g 0)) _ _ _ _ j)
    (Fin.ext ?_) (Fin.ext ?_)
  · blk_simp [index2_10]
  · blk_simp [index2_10]

/-- A word is that of a graph below 128 exactly when it reads as the graph's number. -/
theorem word_iff (a : BitVec 32) (g : Fin 128) : a = BitVec.ofNat 32 g.val ↔ a.toInt = (g.val : ℤ) := by
  have e : (BitVec.ofNat 32 g.val).toInt = (g.val : ℤ) := by
    have := g.isLt
    rw [BitVec.toInt_eq_toNat_of_lt (by rw [BitVec.toNat_ofNat]; omega), BitVec.toNat_ofNat]
    omega
  exact ⟨fun h => h ▸ e, fun h => BitVec.eq_of_toInt_eq (h.trans e.symm)⟩

/-- Entry `l` of block `t` tells graph `g` exactly where row `512 t + l` is a node of it. -/
theorem member_value (x : IVec S50000 32) (t : Fin 98) (l : Fin 512) (g : Fin 128) :
    oneHot (padG x (ValueIdx.ix3 t 0 l)) (BitVec.ofNat 32 g.val)
      = if h : 512 * t.val + l.val < 50000 then (if (x (ValueIdx.ix1 ⟨512 * t.val + l.val, h⟩)).toInt = (g.val : ℤ) then 1 else 0) else 0 := by
  rw [padG_apply]
  unfold oneHot
  by_cases h : 512 * t.val + l.val < 50000
  · rw [dif_pos h, dif_pos h]
    exact if_congr (word_iff _ g) rfl rfl
  · rw [dif_neg h, dif_neg h, if_neg]
    intro e
    have := (word_iff _ g).mp e
    have h2 : (128#32).toInt = 128 := by decide
    have := g.isLt
    omega

/-- A block's row through the third layer's maps is the operand's row through them. -/
theorem rows_block (t : Fin cfg2.N) (l : Fin 512) (r : Fin 50176) (h : r.val = 512 * t.val + l.val) (j : Fin 512) :
    twoLin (mat (blk2 W c 2 t : FVec Ideal S512x512 .f32)) (row (blk2 W c 3 t : FVec Ideal S1x512 .f32))
      (mat (blk2 W c 4 t : FVec Ideal S512x512 .f32)) (row (blk2 W c 5 t : FVec Ideal S1x512 .f32))
      (fun k => (blk2 W c 0 t : FVec Ideal S512x512 .f32) (ValueIdx.ix2 l k)) j
      = twoLin (mat (W c main_arg11 : FVec Ideal S512x512 .f32)) (row (W c main_v16 : FVec Ideal S1x512 .f32))
      (mat (W c main_arg13 : FVec Ideal S512x512 .f32)) (row (W c main_v17 : FVec Ideal S1x512 .f32))
      (fun k => (W c main_v65 : FVec Ideal S50176x512 .f32) (ValueIdx.ix2 r k)) j := by
  rw [block2_2, block2_3, block2_4, block2_5]
  exact congrArg (fun z => twoLin _ _ _ _ z j) (funext fun k => block2_0 W c t l k r h)

/-- The sums after every block: over the nodes, when the words tell the nodes' graphs and the operand's rows give `f` on the nodes. -/
theorem sums_total (x : IVec S50000 32) (f : Fin 50000 → Fin 512 → EReal) (hx : W c main_v30 = padG x)
    (hf : ∀ (r : Fin 50000) j, twoLin (mat (W c main_arg11 : FVec Ideal S512x512 .f32)) (row (W c main_v16 : FVec Ideal S1x512 .f32))
      (mat (W c main_arg13 : FVec Ideal S512x512 .f32)) (row (W c main_v17 : FVec Ideal S1x512 .f32))
      (fun k => (W c main_v65 : FVec Ideal S50176x512 .f32) (ValueIdx.ix2 (Fin.castLE (by norm_num) r) k)) j = f r j)
    (g : Fin 128) (j : Fin 512) :
    (sums2 W c 98 (ValueIdx.ix2 g j) : EReal) = graphSum (fun r => (x (ValueIdx.ix1 r)).toInt) f g.val j := by
  let F : ℕ → EReal := fun q => if h : q < 50000 then (if (x (ValueIdx.ix1 ⟨q, h⟩)).toInt = (g.val : ℤ) then f ⟨q, h⟩ j else 0) else 0
  refine (running_total (T := 98) (fun n => (sums2 W c n (ValueIdx.ix2 g j) : EReal)) (fun t => ∑ l : Fin 512, F (512 * t.val + l.val))
    (sums_start _) fun t => ?_).trans ?_
  · refine (congrFun (sums2_succ W c t) (ValueIdx.ix2 g j)).trans ((sumStep_apply _ _ _ _ _ _ _ g j).trans ?_)
    refine congrArg (fun z : EReal => (sums2 W c t.val (ValueIdx.ix2 g j) : EReal) + z) (Finset.sum_congr rfl fun l _ => ?_)
    rw [member_apply, block2_1 W c t l t rfl, hx, member_value]
    show _ = (if h : 512 * t.val + l.val < 50000 then _ else _ : EReal)
    by_cases h : 512 * t.val + l.val < 50000
    · rw [dif_pos h, dif_pos h]
      by_cases hg : (x (ValueIdx.ix1 ⟨512 * t.val + l.val, h⟩)).toInt = (g.val : ℤ)
      · rw [if_pos hg, if_pos hg, one_mul]
        exact (rows_block W c t l (Fin.castLE (by norm_num) ⟨512 * t.val + l.val, h⟩) rfl j).trans (hf ⟨512 * t.val + l.val, h⟩ j)
      · rw [if_neg hg, if_neg hg, zero_mul]
    · rw [dif_neg h, dif_neg h, zero_mul]
  · rw [sum_blocks (T := 98) (B := 512) F, sum_extend (n := 50000) (by norm_num) (fun k : Fin (98 * 512) => F k.val) (fun k hk => dif_neg (by omega))]
    exact Finset.sum_congr rfl fun r _ => dif_pos r.isLt

/-- The counts after every block: the graph's nodes. -/
theorem cnts_total (x : IVec S50000 32) (hx : W c main_v30 = padG x) (g : Fin 128) :
    (cnts2 W c 98 (ValueIdx.ix2 g 0) : EReal) = graphCount (fun r => (x (ValueIdx.ix1 r)).toInt) g.val := by
  let F : ℕ → EReal := fun q => if h : q < 50000 then (if (x (ValueIdx.ix1 ⟨q, h⟩)).toInt = (g.val : ℤ) then 1 else 0) else 0
  refine (running_total (T := 98) (fun n => (cnts2 W c n (ValueIdx.ix2 g 0) : EReal)) (fun t => ∑ l : Fin 512, F (512 * t.val + l.val))
    (cnts_start _) fun t => ?_).trans ?_
  · refine (congrFun (cnts2_succ W c t) (ValueIdx.ix2 g 0)).trans ((cntStep_apply _ _ g).trans ?_)
    refine congrArg (fun z : EReal => (cnts2 W c t.val (ValueIdx.ix2 g 0) : EReal) + z) (Finset.sum_congr rfl fun l _ => ?_)
    rw [member_apply, block2_1 W c t l t rfl, hx, member_value]
  · rw [sum_blocks (T := 98) (B := 512) F, sum_extend (n := 50000) (by norm_num) (fun k : Fin (98 * 512) => F k.val) (fun k hk => dif_neg (by omega))]
    exact Finset.sum_congr rfl fun r _ => dif_pos r.isLt

end Call

variable (m : (ℓ : Loc nD τ sig) → Buf (Elt Ideal) ℓ) (c : Dev nD)
  (hs : ∀ e : Fin 800000, ((m ((c.tc : Thread nD τ).loc main_arg1) : IVec S2x800000 32) (ValueIdx.ix2 0 e)).toNat < 50000)

/-- The first twelve columns, at an element. -/
theorem first_columns (x : FVec Ideal S128x128 .f32) (g : Fin 128) (j : Fin 12) :
    extractStridedSlice S128x12 ![0, 0] x slices_S128x128_S128x12_0_0 (ValueIdx.ix2 g j) = x (ValueIdx.ix2 g (Fin.castLE (by norm_num) j)) := by
  unfold extractStridedSlice
  refine congrArg x (funext fun a => ?_)
  fin_cases a <;> exact Fin.ext (by simp)

/-- What the kernel returns is the network's output. -/
theorem result (g : Fin 128) (j : Fin 12) :
    (V7 m (outs m) c main_v67 : FVec Ideal S128x12 .f32) (ValueIdx.ix2 g j) = out (args m c hs) g j := by
  have e : V6 m (outs m) c main_v66 = (dat2 (V5 m (outs m)) c).arrAt 10 cfg2.N :=
    (congrFun (V6_eq m c) main_v66).symm.trans (Pipeline.afterRegion_arr (dat2 (V5 m (outs m)) c) (V5 m (outs m) c) winFacts2.arr_inj 10)
  have e7 := congrFun (ops3_read (V6 m (outs m) c)) (ValueIdx.ix2 g j)
  refine e7.trans ?_
  rw [e]
  refine (first_columns _ g j).trans ?_
  refine (call2 (V5 m (outs m)) c g _).trans ?_
  have eg : V5 m (outs m) c main_v30 = padG (args m c hs).x2 :=
    (keep5 m c main_v30 (by decide) (by decide) (by decide) (by decide)).trans (v30_read m c)
  have e18 : V5 m (outs m) c main_v18 = row256 (args m c hs).x16 :=
    (keep5 m c main_v18 (by decide) (by decide) (by decide) (by decide)).trans (v18_read m c)
  have e21 : V5 m (outs m) c main_v21 = padH (args m c hs).x17 :=
    (keep5 m c main_v21 (by decide) (by decide) (by decide) (by decide)).trans (v21_read m c)
  have e26 : V5 m (outs m) c main_v26 = padB (args m c hs).x18 :=
    (keep5 m c main_v26 (by decide) (by decide) (by decide) (by decide)).trans (v26_read m c)
  have e15 : V5 m (outs m) c main_arg15 = (args m c hs).x15 :=
    (keep5 m c main_arg15 (by decide) (by decide) (by decide) (by decide)).trans (V1_of m c main_arg15 (by decide))
  have e11 : V5 m (outs m) c main_arg11 = (args m c hs).x11 :=
    (keep5 m c main_arg11 (by decide) (by decide) (by decide) (by decide)).trans (V1_of m c main_arg11 (by decide))
  have e13 : V5 m (outs m) c main_arg13 = (args m c hs).x13 :=
    (keep5 m c main_arg13 (by decide) (by decide) (by decide) (by decide)).trans (V1_of m c main_arg13 (by decide))
  have e16 : V5 m (outs m) c main_v16 = row512 (args m c hs).x12 :=
    (keep5 m c main_v16 (by decide) (by decide) (by decide) (by decide)).trans (v16_read m c)
  have e17 : V5 m (outs m) c main_v17 = row512 (args m c hs).x14 :=
    (keep5 m c main_v17 (by decide) (by decide) (by decide) (by decide)).trans (v17_read m c)
  have er : ∀ x : FVec Ideal S512 .f32, row (row512 x) = vec x := fun x => funext fun k => row512_apply x k
  have er' : ∀ x : FVec Ideal S256 .f32, row (row256 x) = vec x := fun x => funext fun k => row256_apply x k
  rw [cnts_total (V5 m (outs m)) c (args m c hs).x2 eg g, e18, e21, e26, e15, er']
  simp only [sums_total (V5 m (outs m)) c (args m c hs).x2 (h3 (args m c hs)) eg (fun r j => by
    rw [e11, e13, e16, e17, er, er, v65_read]
    unfold h3 layer
    refine congrArg (fun z => twoLin _ _ _ _ z j) (funext fun k => ?_)
    exact spread512_apply (args m c hs) _ (h2 (args m c hs)) (rows2 m c hs) r k) g]
  unfold out head
  refine congrArg₂ (· + ·) (Finset.sum_congr rfl fun l _ => ?_) (padB_inside _ j)
  exact congrArg₂ (· * ·) rfl (padH_inside _ l j)

end Cert.KernelIdeal.Meaning

end
-- ==== Proof.ReferenceValue.lean ====
/-  The reference computes the network: its three layers' stages, its sums over graphs and its result, read at an element.  -/
module

public import proofs.«01_k».proof.Proof.Model
public import proofs.«01_k».proof.Proof.Gen.ReferenceIdeal.Read
public import Idealize.ShloMosaic.Lib.IdealHost

@[expose] public section

noncomputable section

namespace Cert.ReferenceIdeal.Meaning

open Cert.ReferenceIdeal.Read
open Idealize.ShloMosaic Idealize.ShloMosaic.ValueIdx Idealize.ShloMosaic.Routing Cert.Network Cert.Model

variable (A : Args)

/-- The source column of layer one holds the sources' numbers. -/
theorem sources1 (e : Fin 800000) : val_main_v9 (F := Ideal) A.x1 (ix2 e 0) = BitVec.ofNat 32 (src A e).val := by
  have hw : val_main_v1 (F := Ideal) A.x1 (idx_main_v9 (ix2 e 0)) = A.x1 (ix2 0 e) := by
    rw [val_main_v1_apply, val_main_v0_apply]
    refine congrArg A.x1 ((eq_ix2 _).trans (congrArg₂ ix2 rfl (Fin.ext ?_)))
    exact Nat.mod_eq_of_lt e.isLt
  rw [val_main_v9_apply, val_main_v8_apply, val_main_v5_apply, val_main_v4_apply, val_main_c_apply, hw,
    wrap_of_lt _ _ (lt_trans (A.sources e) (by norm_num)), src_word]

/-- The destination column of layer one holds the destinations' words. -/
theorem dests1 (e : Fin 800000) : (val_main_v12 (F := Ideal) A.x1 (ix2 e 0)).toInt = dst A e := by
  rw [val_main_v12_apply, val_main_v3_apply, val_main_v2_apply]
  refine congrArg (fun i => (A.x1 i).toInt) ((eq_ix2 _).trans (congrArg₂ ix2 rfl (Fin.ext ?_)))
  exact Nat.mod_eq_of_lt e.isLt

/-- Layer one's gathered rows. -/
theorem gathered1 (r : Fin 50000) (k : Fin 7) :
    val_main_v14 (F := Ideal) A.x0 A.x1 (ix2 r k) = gathered (src A) (dst A) (mat A.x0) r k := by
  rw [val_main_v14_apply]
  refine gathered_read gather_S50000x7_S800000x1_S800000x7_1_0_n_n_0_1_17 rfl rfl rfl rfl rfl
    scatter_S50000x7_S800000x1_S800000x7_1_0_0_1.wf A.x0 (val_main_v11 (F := Ideal)) (fun i => ?_) _ _ (src A) (dst A) (sources1 A)
    (dests1 A) (by norm_num) (mat A.x0) (fun _ _ => rfl) r k
  rw [val_main_v11_apply]
  exact Ideal.ofBits_zero_f32

/-- Layer one's first linear map. -/
theorem inner1 (r : Fin 50000) (j : Fin 512) : val_main_v20 (F := Ideal) A.x0 A.x1 A.x3 A.x4 (ix2 r j)
    = linRelu (mat A.x3) (vec A.x4) (gathered (src A) (dst A) (mat A.x0) r) j := by
  rw [val_main_v20_apply, val_main_v18_apply, val_main_v15_apply, val_main_v17_apply, val_main_v16_apply, val_main_v19_apply]
  refine congrArg₂ max (congrArg₂ (· + ·) (Finset.sum_congr rfl fun k _ => congrArg₂ (· * ·) ?_ ?_) ?_) Ideal.ofBits_zero_f32
  · exact (congrArg _ (eq_ix2 _)).trans (gathered1 A r k)
  · exact congrArg A.x3 (eq_ix2 _)
  · exact congrArg A.x4 (eq_ix1 _)

/-- The rows after layer one. -/
theorem layer1 (r : Fin 50000) (j : Fin 512) : val_main_v26 (F := Ideal) A.x0 A.x1 A.x3 A.x4 A.x5 A.x6 (ix2 r j) = h1 A r j := by
  rw [val_main_v26_apply, val_main_v24_apply, val_main_v21_apply, val_main_v23_apply, val_main_v22_apply, val_main_v25_apply]
  refine congrArg₂ max (congrArg₂ (· + ·) (Finset.sum_congr rfl fun k _ => congrArg₂ (· * ·) ?_ ?_) ?_) Ideal.ofBits_zero_f32
  · exact (congrArg _ (eq_ix2 _)).trans (inner1 A r k)
  · exact congrArg A.x5 (eq_ix2 _)
  · exact congrArg A.x6 (eq_ix1 _)

/-- The source column of layer two holds the sources' numbers. -/
theorem sources2 (e : Fin 800000) : val_main_v36 (F := Ideal) A.x1 (ix2 e 0) = BitVec.ofNat 32 (src A e).val := by
  have hw : val_main_v28 (F := Ideal) A.x1 (idx_main_v36 (ix2 e 0)) = A.x1 (ix2 0 e) := by
    rw [val_main_v28_apply, val_main_v27_apply]
    refine congrArg A.x1 ((eq_ix2 _).trans (congrArg₂ ix2 rfl (Fin.ext ?_)))
    exact Nat.mod_eq_of_lt e.isLt
  rw [val_main_v36_apply, val_main_v35_apply, val_main_v32_apply, val_main_v31_apply, val_main_c_3_apply, hw,
    wrap_of_lt _ _ (lt_trans (A.sources e) (by norm_num)), src_word]

/-- The destination column of layer two holds the destinations' words. -/
theorem dests2 (e : Fin 800000) : (val_main_v39 (F := Ideal) A.x1 (ix2 e 0)).toInt = dst A e := by
  rw [val_main_v39_apply, val_main_v30_apply, val_main_v29_apply]
  refine congrArg (fun i => (A.x1 i).toInt) ((eq_ix2 _).trans (congrArg₂ ix2 rfl (Fin.ext ?_)))
  exact Nat.mod_eq_of_lt e.isLt

/-- Layer two's gathered rows. -/
theorem gathered2 (r : Fin 50000) (k : Fin 512) :
    val_main_v41 (F := Ideal) A.x0 A.x1 A.x3 A.x4 A.x5 A.x6 (ix2 r k) = gathered (src A) (dst A) (h1 A) r k := by
  rw [val_main_v41_apply]
  refine gathered_read gather_S50000x512_S800000x1_S800000x512_1_0_n_n_0_1_1512 rfl rfl rfl rfl rfl
    scatter_S50000x512_S800000x1_S800000x512_1_0_0_1.wf (val_main_v26 (F := Ideal) A.x0 A.x1 A.x3 A.x4 A.x5 A.x6) (val_main_v38 (F := Ideal)) (fun i => ?_) _ _ (src A) (dst A)
    (sources2 A) (dests2 A) (by norm_num) (h1 A) (layer1 A) r k
  rw [val_main_v38_apply]
  exact Ideal.ofBits_zero_f32

/-- Layer two's first linear map. -/
theorem inner2 (r : Fin 50000) (j : Fin 512) : val_main_v47 (F := Ideal) A.x0 A.x1 A.x3 A.x4 A.x5 A.x6 A.x7 A.x8 (ix2 r j)
    = linRelu (mat A.x7) (vec A.x8) (gathered (src A) (dst A) (h1 A) r) j := by
  rw [val_main_v47_apply, val_main_v45_apply, val_main_v42_apply, val_main_v44_apply, val_main_v43_apply, val_main_v46_apply]
  refine congrArg₂ max (congrArg₂ (· + ·) (Finset.sum_congr rfl fun k _ => congrArg₂ (· * ·) ?_ ?_) ?_) Ideal.ofBits_zero_f32
  · exact (congrArg _ (eq_ix2 _)).trans (gathered2 A r k)
  · exact congrArg A.x7 (eq_ix2 _)
  · exact congrArg A.x8 (eq_ix1 _)

/-- The rows after layer two. -/
theorem layer2 (r : Fin 50000) (j : Fin 512) :
    val_main_v53 (F := Ideal) A.x0 A.x1 A.x3 A.x4 A.x5 A.x6 A.x7 A.x8 A.x9 A.x10 (ix2 r j) = h2 A r j := by
  rw [val_main_v53_apply, val_main_v51_apply, val_main_v48_apply, val_main_v50_apply, val_main_v49_apply, val_main_v52_apply]
  refine congrArg₂ max (congrArg₂ (· + ·) (Finset.sum_congr rfl fun k _ => congrArg₂ (· * ·) ?_ ?_) ?_) Ideal.ofBits_zero_f32
  · exact (congrArg _ (eq_ix2 _)).trans (inner2 A r k)
  · exact congrArg A.x9 (eq_ix2 _)
  · exact congrArg A.x10 (eq_ix1 _)

/-- The source column of layer three holds the sources' numbers. -/
theorem sources3 (e : Fin 800000) : val_main_v63 (F := Ideal) A.x1 (ix2 e 0) = BitVec.ofNat 32 (src A e).val := by
  have hw : val_main_v55 (F := Ideal) A.x1 (idx_main_v63 (ix2 e 0)) = A.x1 (ix2 0 e) := by
    rw [val_main_v55_apply, val_main_v54_apply]
    refine congrArg A.x1 ((eq_ix2 _).trans (congrArg₂ ix2 rfl (Fin.ext ?_)))
    exact Nat.mod_eq_of_lt e.isLt
  rw [val_main_v63_apply, val_main_v62_apply, val_main_v59_apply, val_main_v58_apply, val_main_c_8_apply, hw,
    wrap_of_lt _ _ (lt_trans (A.sources e) (by norm_num)), src_word]

/-- The destination column of layer three holds the destinations' words. -/
theorem dests3 (e : Fin 800000) : (val_main_v66 (F := Ideal) A.x1 (ix2 e 0)).toInt = dst A e := by
  rw [val_main_v66_apply, val_main_v57_apply, val_main_v56_apply]
  refine congrArg (fun i => (A.x1 i).toInt) ((eq_ix2 _).trans (congrArg₂ ix2 rfl (Fin.ext ?_)))
  exact Nat.mod_eq_of_lt e.isLt

/-- Layer three's gathered rows. -/
theorem gathered3 (r : Fin 50000) (k : Fin 512) :
    val_main_v68 (F := Ideal) A.x0 A.x1 A.x3 A.x4 A.x5 A.x6 A.x7 A.x8 A.x9 A.x10 (ix2 r k) = gathered (src A) (dst A) (h2 A) r k := by
  rw [val_main_v68_apply]
  refine gathered_read gather_S50000x512_S800000x1_S800000x512_1_0_n_n_0_1_1512 rfl rfl rfl rfl rfl
    scatter_S50000x512_S800000x1_S800000x512_1_0_0_1.wf (val_main_v53 (F := Ideal) A.x0 A.x1 A.x3 A.x4 A.x5 A.x6 A.x7 A.x8 A.x9 A.x10) (val_main_v65 (F := Ideal)) (fun i => ?_) _ _ (src A) (dst A)
    (sources3 A) (dests3 A) (by norm_num) (h2 A) (layer2 A) r k
  rw [val_main_v65_apply]
  exact Ideal.ofBits_zero_f32

/-- Layer three's first linear map. -/
theorem inner3 (r : Fin 50000) (j : Fin 512) : val_main_v74 (F := Ideal) A.x0 A.x1 A.x3 A.x4 A.x5 A.x6 A.x7 A.x8 A.x9 A.x10 A.x11 A.x12 (ix2 r j)
    = linRelu (mat A.x11) (vec A.x12) (gathered (src A) (dst A) (h2 A) r) j := by
  rw [val_main_v74_apply, val_main_v72_apply, val_main_v69_apply, val_main_v71_apply, val_main_v70_apply, val_main_v73_apply]
  refine congrArg₂ max (congrArg₂ (· + ·) (Finset.sum_congr rfl fun k _ => congrArg₂ (· * ·) ?_ ?_) ?_) Ideal.ofBits_zero_f32
  · exact (congrArg _ (eq_ix2 _)).trans (gathered3 A r k)
  · exact congrArg A.x11 (eq_ix2 _)
  · exact congrArg A.x12 (eq_ix1 _)

/-- The rows after layer three. -/
theorem layer3 (r : Fin 50000) (j : Fin 512) :
    val_main_v80 (F := Ideal) A.x0 A.x1 A.x3 A.x4 A.x5 A.x6 A.x7 A.x8 A.x9 A.x10 A.x11 A.x12 A.x13 A.x14 (ix2 r j) = h3 A r j := by
  rw [val_main_v80_apply, val_main_v78_apply, val_main_v75_apply, val_main_v77_apply, val_main_v76_apply, val_main_v79_apply]
  refine congrArg₂ max (congrArg₂ (· + ·) (Finset.sum_congr rfl fun k _ => congrArg₂ (· * ·) ?_ ?_) ?_) Ideal.ofBits_zero_f32
  · exact (congrArg _ (eq_ix2 _)).trans (inner3 A r k)
  · exact congrArg A.x13 (eq_ix2 _)
  · exact congrArg A.x14 (eq_ix1 _)

/-- The rows of each graph's nodes, added up. -/
theorem sums (g : Fin 128) (j : Fin 512) : val_main_v83 (F := Ideal) A.x0 A.x1 A.x2 A.x3 A.x4 A.x5 A.x6 A.x7 A.x8 A.x9 A.x10 A.x11 A.x12 A.x13 A.x14 (ix2 g j)
    = graphSum (graph A) (h3 A) g.val j := by
  refine (Rows.rows_added scatter_S128x512_S50000x1_S50000x512_1_0_0_1.wf (val_main_v81 (F := Ideal)) (val_main_v82 (F := Ideal) A.x2)
    (val_main_v80 (F := Ideal) A.x0 A.x1 A.x3 A.x4 A.x5 A.x6 A.x7 A.x8 A.x9 A.x10 A.x11 A.x12 A.x13 A.x14) g j).trans ?_
  have hz : (val_main_v81 (F := Ideal) (ix2 g j) : EReal) = 0 := by
    rw [val_main_v81_apply]
    exact Ideal.ofBits_zero_f32
  rw [hz, zero_add]
  refine Finset.sum_congr rfl fun r _ => if_congr ?_ (layer3 A r j) rfl
  rw [val_main_v82_apply]
  exact Iff.of_eq (congrArg (fun i => (A.x2 i).toInt = (g.val : ℤ)) (eq_ix1 _))

/-- The number of each graph's nodes. -/
theorem counts (g : Fin 128) : val_main_v87 (F := Ideal) A.x2 (ix2 g 0) = graphCount (graph A) g.val := by
  refine (Rows.rows_added scatter_S128x1_S50000x1_S50000x1_1_0_0_1.wf (val_main_v85 (F := Ideal)) (val_main_v86 (F := Ideal) A.x2)
    (val_main_v84 (F := Ideal)) g 0).trans ?_
  have hz : (val_main_v85 (F := Ideal) (ix2 g 0) : EReal) = 0 := by
    rw [val_main_v85_apply]
    exact Ideal.ofBits_zero_f32
  rw [hz, zero_add]
  refine Finset.sum_congr rfl fun r _ => if_congr ?_ ?_ rfl
  · rw [val_main_v86_apply]
    exact Iff.of_eq (congrArg (fun i => (A.x2 i).toInt = (g.val : ℤ)) (eq_ix1 _))
  · rw [val_main_v84_apply]
    exact Ideal.ofBits_one_f32

/-- Each graph's mean row. -/
theorem means (g : Fin 128) (k : Fin 512) : val_main_v91 (F := Ideal) A.x0 A.x1 A.x2 A.x3 A.x4 A.x5 A.x6 A.x7 A.x8 A.x9 A.x10 A.x11 A.x12 A.x13 A.x14 (ix2 g k)
    = Ideal.div (graphSum (graph A) (h3 A) g.val k) (max (graphCount (graph A) g.val) 1) := by
  rw [val_main_v91_apply, val_main_v90_apply, val_main_v89_apply, val_main_v88_apply]
  refine congrArg₂ Ideal.div (sums A g k) (congrArg₂ max ?_ Ideal.ofBits_one_f32)
  exact (congrArg _ (eq_ix2 _)).trans (counts A g)

/-- The first closing map. -/
theorem closing (g : Fin 128) (l : Fin 256) : val_main_v97 (F := Ideal) A.x0 A.x1 A.x2 A.x3 A.x4 A.x5 A.x6 A.x7 A.x8 A.x9 A.x10 A.x11 A.x12 A.x13 A.x14 A.x15 A.x16 (ix2 g l)
    = linRelu (mat A.x15) (vec A.x16)
        (fun k => Ideal.div (graphSum (graph A) (h3 A) g.val k) (max (graphCount (graph A) g.val) 1)) l := by
  rw [val_main_v97_apply, val_main_v95_apply, val_main_v92_apply, val_main_v94_apply, val_main_v93_apply, val_main_v96_apply]
  refine congrArg₂ max (congrArg₂ (· + ·) (Finset.sum_congr rfl fun k _ => congrArg₂ (· * ·) ?_ ?_) ?_) Ideal.ofBits_zero_f32
  · exact (congrArg _ (eq_ix2 _)).trans (means A g k)
  · exact congrArg A.x15 (eq_ix2 _)
  · exact congrArg A.x16 (eq_ix1 _)

/-- The reference's result is the network's. -/
theorem result (g : Fin 128) (j : Fin 12) : val_main_v101 (F := Ideal) A.x0 A.x1 A.x2 A.x3 A.x4 A.x5 A.x6 A.x7 A.x8 A.x9 A.x10 A.x11 A.x12 A.x13 A.x14 A.x15 A.x16 A.x17 A.x18 (ix2 g j)
    = out A g j := by
  rw [val_main_v101_apply, val_main_v98_apply, val_main_v100_apply, val_main_v99_apply]
  refine congrArg₂ (· + ·) (Finset.sum_congr rfl fun l _ => congrArg₂ (· * ·) ?_ ?_) ?_
  · exact (congrArg _ (eq_ix2 _)).trans (closing A g l)
  · exact congrArg A.x17 (eq_ix2 _)
  · exact congrArg A.x18 (eq_ix1 _)

end Cert.ReferenceIdeal.Meaning

end
-- ==== Proof.Sources.lean ====
/-  What the precondition says: every edge's source is a node's number.  -/
module

public import proofs.«01_k».proof.Pre_sources_in_range
public import proofs.«01_k».proof.Proof.IdealHostValue
public import Idealize.ShloMosaic.Lib.ReduceAll

@[expose] public section

set_option maxRecDepth 16384

noncomputable section

namespace Cert.Sources

open Idealize.ShloMosaic Idealize.ShloMosaic.ValueIdx Cert.Pre_sources_in_range

/-- A word at least 0 and below 50000, compared as signed, reads unsigned as a number below 50000. -/
theorem word_small (v : BitVec 32) (e : IntOp.andi (IntOp.cmpi .sge v 0#32) (IntOp.cmpi .slt v 50000#32) = 1#1) : v.toNat < 50000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton S_.Idx := ⟨fun a b => funext fun i => i.elim0⟩

/-- Where the precondition is all ones, each source is below 50000. -/
theorem small [Facts] (a0 : FVec Ideal S50000x7 .f32) (a1 : IVec S2x800000 32) (a2 : IVec S50000 32) (a3 : FVec Ideal S7x512 .f32)
    (a4 : FVec Ideal S512 .f32) (a5 : FVec Ideal S512x512 .f32) (a6 : FVec Ideal S512 .f32) (a7 : FVec Ideal S512x512 .f32)
    (a8 : FVec Ideal S512 .f32) (a9 : FVec Ideal S512x512 .f32) (a10 : FVec Ideal S512 .f32) (a11 : FVec Ideal S512x512 .f32)
    (a12 : FVec Ideal S512 .f32) (a13 : FVec Ideal S512x512 .f32) (a14 : FVec Ideal S512 .f32) (a15 : FVec Ideal S512x256 .f32)
    (a16 : FVec Ideal S256 .f32) (a17 : FVec Ideal S256x12 .f32) (a18 : FVec Ideal S12 .f32)
    (h : fn (F := Ideal) a0 a1 a2 a3 a4 a5 a6 a7 a8 a9 a10 a11 a12 a13 a14 a15 a16 a17 a18 = fun _ => 1#1) (e : Fin 800000) :
    (a1 (ix2 0 e)).toNat < 50000 := by
  have h1 := congrFun h (Shape.Idx.first Facts.h_S_)
  have h2 := Host.reduce_andi_all _ _ _ _ _ h1 (ix1 e)
  have h3 := word_small (Cert.KernelIdeal.Meaning.srcRow a1 (ix1 e)) h2
  rwa [Cert.KernelIdeal.Meaning.srcRow_apply] at h3

end Cert.Sources

end
-- ==== Proof.lean ====
/-  The proof of `Cert.Claim`: the kernel's, its idealization's and the reference's frames, and the equality of the two results
    over the extended reals.  -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sources_in_range
public import proofs.«01_k».proof.Proof.KernelRun
public import proofs.«01_k».proof.Proof.IdealRun
public import proofs.«01_k».proof.Proof.IdealResult
public import proofs.«01_k».proof.Proof.ReferenceValue
public import proofs.«01_k».proof.Proof.Sources
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Kernel

attribute [local instance] Cert.Kernel.Gen.facts Cert.KernelIdeal.Gen.facts Cert.ReferenceIdeal.Gen.facts Cert.Pre_sources_in_range.Gen.facts

/-- The kernel runs, leaves its arguments as they were, and ends with every counter at zero. -/
theorem kernel_frame : Cert.quiescent_Kernel := fun m ρ _ => Cert.Kernel.Run.frame m ρ

/-- So does the kernel over the extended reals. -/
theorem ideal_frame : Cert.quiescent_KernelIdeal := fun m ρ _ => Cert.KernelIdeal.Run.frame m ρ

/-- So does it where the sources are in range. -/
theorem ideal_frame_pre : Cert.quiescent_KernelIdeal_pre_sources_in_range := fun m ρ _ => Cert.KernelIdeal.Run.frame m ρ

/-- The reference over the extended reals runs, leaves its arguments as they were, and ends with every counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- So does it where the sources are in range. -/
theorem reference_frame_pre : Cert.quiescent_ReferenceIdeal_pre_sources_in_range := fun m ρ _ => reference_frame m ρ trivial

/-- Where the sources are in range, the kernel and the reference, started on the same arguments, end with equal results. -/
theorem equal_results : Cert.algebraic_KernelIdeal_ReferenceIdeal_pre_sources_in_range := by
  intro m ρ m' ρ' hp hm
  have hs : ∀ (c : Dev Cert.KernelIdeal.nD) (e : Fin 800000),
      ((m ((c.tc : Thread Cert.KernelIdeal.nD Cert.KernelIdeal.τ).loc Cert.KernelIdeal.main_arg1) : IVec Cert.KernelIdeal.S2x800000 32)
        (ValueIdx.ix2 0 e)).toNat < 50000 :=
    fun c => Cert.Sources.small _ _ _ _ _ _ _ _ _ _ _ _ _ _ _ _ _ _ _ (hp c)
  refine ⟨fun c => Cert.KernelIdeal.Gen.V7 m (Cert.KernelIdeal.Run.outs m) c (Proc.tc.devRef Cert.KernelIdeal.main_v67), ?_, ?_⟩
  · exact (θ_run Cert.KernelIdeal.defs _ _).mono (fun r h => h.1) (Cert.KernelIdeal.Run.run_result m ρ)
  · refine (θ_run Cert.ReferenceIdeal.defs _ _).mono (fun r h c => ⟨(h c).1.trans ?_, (h c).2⟩) (Cert.ReferenceIdeal.Value.run m' ρ')
    obtain ⟨e0, e1, e2, e3, e4, e5, e6, e7, e8, e9, e10, e11, e12, e13, e14, e15, e16, e17, e18⟩ := hm c
    refine (Cert.ReferenceIdeal.Read.val_main_v101_eq m' c).trans ?_
    rw [e0, e1, e2, e3, e4, e5, e6, e7, e8, e9, e10, e11, e12, e13, e14, e15, e16, e17, e18]
    funext i
    rw [ValueIdx.eq_ix2 i]
    exact (Cert.ReferenceIdeal.Meaning.result (Cert.KernelIdeal.Meaning.args m c (hs c)) (i 0) (i 1)).trans
      (Cert.KernelIdeal.Meaning.result m c (hs c) (i 0) (i 1)).symm

/-- Every claim of the certificate. -/
theorem claim : Cert.Claim :=
  ⟨Cert.Kernel.Gen.facts, Cert.KernelIdeal.Gen.facts, Cert.ReferenceIdeal.Gen.facts, Cert.Pre_sources_in_range.Gen.facts,
    kernel_frame, ideal_frame, ideal_frame_pre, reference_frame, reference_frame_pre, trivial, equal_results⟩

end Cert.Proof

end
